-- ==== Defs.lean ====
def Pre_Kernel [hPre_graphs_in_range : Cert.Pre_graphs_in_range.Facts] (m : (ℓ : Loc Cert.Kernel.nD Cert.Kernel.τ Cert.Kernel.sig) → Buf (Elt Bits) ℓ) : Prop :=
  ∀ c : Dev Cert.Kernel.nD,
    (Cert.Pre_graphs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_graphs_in_range : Cert.Pre_graphs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_graphs_sorted_rows_finite [hPre_graphs_sorted_rows_finite : Cert.Pre_graphs_sorted_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_sorted_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs_sorted_rows_finite [hPre_graphs_sorted_rows_finite : Cert.Pre_graphs_sorted_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs_sorted_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_graphs_in_range : Cert.Pre_graphs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_graphs_in_range : Cert.Pre_graphs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_graphs_sorted_rows_finite [hKernelIdeal : Cert.KernelIdeal.Facts] [hPre_graphs_sorted_rows_finite : Cert.Pre_graphs_sorted_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graphs_sorted_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_graphs_sorted_rows_finite [hReferenceIdeal : Cert.ReferenceIdeal.Facts] [hPre_graphs_sorted_rows_finite : Cert.Pre_graphs_sorted_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs_sorted_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_graphs_sorted_rows_finite [hKernelIdeal : Cert.KernelIdeal.Facts] [hReferenceIdeal : Cert.ReferenceIdeal.Facts] [hPre_graphs_sorted_rows_finite : Cert.Pre_graphs_sorted_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graphs_sorted_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_cst_0)) (v6 : (c : Dev Cert.KernelIdeal.nD) → Buf (Elt Ideal) ((c.tc : Thread Cert.KernelIdeal.nD Cert.KernelIdeal.τ).loc Cert.KernelIdeal.main_v15)) (v7 : (c : Dev Cert.KernelIdeal.nD) → Buf (Elt Ideal) ((c.tc : Thread Cert.KernelIdeal.nD Cert.KernelIdeal.τ).loc Cert.KernelIdeal.main_v17)) (v8 : (c : Dev Cert.KernelIdeal.nD) → Buf (Elt Ideal) ((c.tc : Thread Cert.KernelIdeal.nD Cert.KernelIdeal.τ).loc Cert.KernelIdeal.main_cst_1)) (v9 : (c : Dev Cert.KernelIdeal.nD) → Buf (Elt Ideal) ((c.tc : Thread Cert.KernelIdeal.nD Cert.KernelIdeal.τ).loc Cert.KernelIdeal.main_v19)) (v10 : (c : Dev Cert.KernelIdeal.nD) → Buf (Elt Ideal) ((c.tc : Thread Cert.KernelIdeal.nD Cert.KernelIdeal.τ).loc Cert.KernelIdeal.main_v21)) (v11 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_cst_0) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_v17) = v7 c
          ∧ r.2.mem ((c.tc : Thread Cert.KernelIdeal.nD Cert.KernelIdeal.τ).loc Cert.KernelIdeal.main_cst_1) = v8 c
          ∧ r.2.mem ((c.tc : Thread Cert.KernelIdeal.nD Cert.KernelIdeal.τ).loc Cert.KernelIdeal.main_v19) = v9 c
          ∧ r.2.mem ((c.tc : Thread Cert.KernelIdeal.nD Cert.KernelIdeal.τ).loc Cert.KernelIdeal.main_v21) = v10 c
          ∧ r.2.mem ((c.tc : Thread Cert.KernelIdeal.nD Cert.KernelIdeal.τ).loc Cert.KernelIdeal.main_v23) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_cst_34) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v54) = v7 c
          ∧ r.2.mem ((c.tc : Thread Cert.ReferenceIdeal.nD Cert.ReferenceIdeal.τ).loc Cert.ReferenceIdeal.main_cst_35) = v8 c
          ∧ r.2.mem ((c.tc : Thread Cert.ReferenceIdeal.nD Cert.ReferenceIdeal.τ).loc Cert.ReferenceIdeal.main_v57) = v9 c
          ∧ r.2.mem ((c.tc : Thread Cert.ReferenceIdeal.nD Cert.ReferenceIdeal.τ).loc Cert.ReferenceIdeal.main_v62) = v10 c
          ∧ r.2.mem ((c.tc : Thread Cert.ReferenceIdeal.nD Cert.ReferenceIdeal.τ).loc Cert.ReferenceIdeal.main_v113) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_graphs_in_range : Cert.Pre_graphs_in_range.Facts) (hPre_graphs_sorted_rows_finite : Cert.Pre_graphs_sorted_rows_finite.Facts),
    quiescent_Kernel (hKernel := hKernel) (hPre_graphs_in_range := hPre_graphs_in_range)
    ∧ quiescent_KernelIdeal (hKernelIdeal := hKernelIdeal) (hPre_graphs_in_range := hPre_graphs_in_range)
    ∧ quiescent_KernelIdeal_pre_graphs_sorted_rows_finite (hKernelIdeal := hKernelIdeal) (hPre_graphs_sorted_rows_finite := hPre_graphs_sorted_rows_finite)
    ∧ quiescent_ReferenceIdeal (hReferenceIdeal := hReferenceIdeal)
    ∧ quiescent_ReferenceIdeal_pre_graphs_sorted_rows_finite (hReferenceIdeal := hReferenceIdeal) (hPre_graphs_sorted_rows_finite := hPre_graphs_sorted_rows_finite)
    ∧ preserves_Kernel_KernelIdeal
    ∧ algebraic_KernelIdeal_ReferenceIdeal_pre_graphs_sorted_rows_finite (hKernelIdeal := hKernelIdeal) (hReferenceIdeal := hReferenceIdeal) (hPre_graphs_sorted_rows_finite := hPre_graphs_sorted_rows_finite)
-- ==== Pre_graphs_in_range.lean ====
abbrev S8192x128 : Shape := ⟨2, ![8192, 128]⟩
abbrev S8192 : Shape := ⟨1, ![8192]⟩
abbrev S8192x2 : Shape := ⟨2, ![8192, 2]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S8192x32 : Shape := ⟨2, ![8192, 32]⟩

class Facts : Prop where
  bcast_S_S8192 : S_.BroadcastsInDim S8192 (![] : Fin 0 → Fin S8192.rank)

variable [Facts]

def fn {F : FTy → Type} [FloatOps F] (main_arg0 : FVec F S8192x128 .f32) (main_arg1 : IVec S8192 32) (main_arg2 : FVec F S8192x2 .f32) (main_arg3 : FVec F S128x128 .f32) (main_arg4 : FVec F S128 .f32) (main_arg5 : FVec F S128x32 .f32) (main_arg6 : FVec F S32 .f32) (main_arg7 : FVec F S_ .f32) (main_arg8 : FVec F S8192x32 .f32) (main_arg9 : FVec F S32 .f32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Pre_graphs_sorted_rows_finite.lean ====
abbrev S8192x128 : Shape := ⟨2, ![8192, 128]⟩
abbrev S8192 : Shape := ⟨1, ![8192]⟩
abbrev S8192x2 : Shape := ⟨2, ![8192, 2]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S8192x32 : Shape := ⟨2, ![8192, 32]⟩
abbrev S8191 : Shape := ⟨1, ![8191]⟩
abbrev S1 : Shape := ⟨1, ![1]⟩
abbrev S1x128 : Shape := ⟨2, ![1, 128]⟩
abbrev S1x32 : Shape := ⟨2, ![1, 32]⟩
abbrev S8192x1 : Shape := ⟨2, ![8192, 1]⟩

class Facts : Prop where
  slices_S8192_S8191_1 : S8192.Slices ![1] S8191
  slices_S8192_S1_8191 : S8192.Slices ![8191] S1
  concatenates_S8191_S1_S8192_d0 : Shape.Concatenates [S8191, S1] S8192 0
  bcast_S_S8192 : S_.BroadcastsInDim S8192 (![] : Fin 0 → Fin S8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S_S1x32 : S_.BroadcastsInDim S1x32 (![] : Fin 0 → Fin S1x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x2 : S_.BroadcastsInDim S8192x2 (![] : Fin 0 → Fin S8192x2.rank)
  bcast_S8192x1_S8192x2_0_1 : S8192x1.BroadcastsInDim S8192x2 (![0, 1] : Fin 2 → Fin S8192x2.rank)
  dot_S8192x128_S128x128_S8192x128_1_0_0_1_n_n_wf : DotDims.WF S8192x128 S128x128 S8192x128 [1] [0] [0] [1] [] []
  dot_S8192x128_S128x32_S8192x32_1_0_0_1_n_n_wf : DotDims.WF S8192x128 S128x32 S8192x32 [1] [0] [0] [1] [] []

variable [Facts]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def fn_relu {F : FTy → Type} [FloatOps F] (arg0 : FVec F S8192x128 .f32) : FVec F S8192x128 .f32 :=
  let cst : FVec F S_ .f32 := constant S_ .f32 0x00000000#32
  let v0 : FVec F S8192x128 .f32 := broadcastInDim S8192x128 ![] bcast_S_S8192x128 cst
  let v1 : FVec F S8192x128 .f32 := maximumf arg0 v0
  v1

def fn_where {F : FTy → Type} [FloatOps F] (arg0 : IVec S1x32 1) (arg1 : FVec F S_ .f32) (arg2 : FVec F S8192x32 .f32) : FVec F S8192x32 .f32 :=
  let v0 : FVec F S_ .f32 := id arg1
  let v1 : IVec S8192x32 1 := broadcastInDim S8192x32 ![0, 1] bcast_S1x32_S8192x32_0_1 arg0
  let v2 : FVec F S8192x32 .f32 := broadcastInDim S8192x32 ![] bcast_S_S8192x32 v0
  let v3 : FVec F S8192x32 .f32 := select v1 v2 arg2
  v3

def fn_part1 {F : FTy → Type} [FloatOps F] (main_arg2 : FVec F S8192x2 .f32) (main_arg8 : FVec F S8192x32 .f32) (main_v9 : IVec S8192 1) (main_v20 : FVec F S8192x32 .f32) (main_v21 : FVec F S1x32 .f32) : IVec S8192x2 1 :=
  let main_cst : FVec F S_ .f32 := constant S_ .f32 0x00000000#32
  let main_v22 : FVec F S1x32 .f32 := broadcastInDim S1x32 ![] bcast_S_S1x32 main_cst
  let main_v23 : IVec S1x32 1 := cmpf .oeq main_v21 main_v22
  let main_cst_1 : FVec F S_ .f32 := constant S_ .f32 0xCE6E6B28#32
  let main_v24 : FVec F S8192x32 .f32 := fn_where (F := F) main_v23 main_cst_1 main_v20
  let main_v25 : FVec F S8192x32 .f32 := addf main_v24 main_arg8
  let main_cst_2 : FVec F S_ .f32 := constant S_ .f32 0x3F800000#32
  let main_v26 : FVec F S8192x32 .f32 := broadcastInDim S8192x32 ![] bcast_S_S8192x32 main_cst_2
  let main_v27 : FVec F S8192x32 .f32 := Host.divf main_v25 main_v26
  let main_cst_3 : FVec F S_ .f32 := constant S_ .f32 0xFF800000#32
  let main_v28 : FVec F S8192 .f32 := (fun x v => Host.reduce FloatOps.maximumf x v reducesTo_S8192x32_S8192_d1 h_S_) main_v27 main_cst_3
  let main_v29 : FVec F S8192 .f32 := Host.absf main_v28
  let main_cst_4 : FVec F S_ .f32 := constant S_ .f32 0x7F800000#32
  let main_v30 : FVec F S8192 .f32 := broadcastInDim S8192 ![] bcast_S_S8192 main_cst_4
  let main_v31 : IVec S8192 1 := cmpf .olt main_v29 main_v30
  let main_v32 : IVec S8192 1 := andi main_v9 main_v31
  let main_v33 : IVec S8192x1 1 := broadcastInDim S8192x1 ![0] bcast_S8192_S8192x1_0 main_v32
  let main_v34 : FVec F S8192x2 .f32 := Host.absf main_arg2
  let main_cst_5 : FVec F S_ .f32 := constant S_ .f32 0x7F800000#32
  let main_v35 : FVec F S8192x2 .f32 := broadcastInDim S8192x2 ![] bcast_S_S8192x2 main_cst_5
  let main_v36 : IVec S8192x2 1 := cmpf .olt main_v34 main_v35
  let main_v37 : IVec S8192x2 1 := broadcastInDim S8192x2 ![0, 1] bcast_S8192x1_S8192x2_0_1 main_v33
  let main_v38 : IVec S8192x2 1 := andi main_v37 main_v36
  main_v38

def fn {F : FTy → Type} [FloatOps F] (main_arg0 : FVec F S8192x128 .f32) (main_arg1 : IVec S8192 32) (main_arg2 : FVec F S8192x2 .f32) (main_arg3 : FVec F S128x128 .f32) (main_arg4 : FVec F S128 .f32) (main_arg5 : FVec F S128x32 .f32) (main_arg6 : FVec F S32 .f32) (main_arg7 : FVec F S_ .f32) (main_arg8 : FVec F S8192x32 .f32) (main_arg9 : FVec F S32 .f32) : IVec S8192x2 1 :=
  let main_v0 : IVec S8191 32 := (extractStridedSlice S8191 ![1] · slices_S8192_S8191_1) main_arg1
  let main_v1 : IVec S1 32 := (extractStridedSlice S1 ![8191] · slices_S8192_S1_8191) main_arg1
  let main_v2 : IVec S8192 32 := (fun a b => concatenate S8192 0 [⟨S8191, a⟩, ⟨S1, b⟩] concatenates_S8191_S1_S8192_d0) main_v0 main_v1
  let main_c : IVec S_ 32 := constantI S_ 32 0#32
  let main_v3 : IVec S8192 32 := broadcastInDim S8192 ![] bcast_S_S8192 main_c
  let main_v4 : IVec S8192 1 := cmpi .sge main_arg1 main_v3
  let main_c_0 : IVec S_ 32 := constantI S_ 32 8#32
  let main_v5 : IVec S8192 32 := broadcastInDim S8192 ![] bcast_S_S8192 main_c_0
  let main_v6 : IVec S8192 1 := cmpi .slt main_arg1 main_v5
  let main_v7 : IVec S8192 1 := andi main_v4 main_v6
  let main_v8 : IVec S8192 1 := cmpi .sle main_arg1 main_v2
  let main_v9 : IVec S8192 1 := andi main_v7 main_v8
  let main_v10 : FVec F S8192x128 .f32 := (fun l r => Host.dotGeneral dot_S8192x128_S128x128_S8192x128_1_0_0_1_n_n none l r) main_arg0 main_arg3
  let main_v11 : FVec F S1x128 .f32 := broadcastInDim S1x128 ![1] bcast_S128_S1x128_1 main_arg4
  let main_v12 : FVec F S8192x128 .f32 := broadcastInDim S8192x128 ![0, 1] bcast_S1x128_S8192x128_0_1 main_v11
  let main_v13 : FVec F S8192x128 .f32 := addf main_v10 main_v12
  let main_v14 : FVec F S8192x128 .f32 := fn_relu (F := F) main_v13
  let main_v15 : FVec F S8192x32 .f32 := (fun l r => Host.dotGeneral dot_S8192x128_S128x32_S8192x32_1_0_0_1_n_n none l r) main_v14 main_arg5
  let main_v16 : FVec F S1x32 .f32 := broadcastInDim S1x32 ![1] bcast_S32_S1x32_1 main_arg6
  let main_v17 : FVec F S8192x32 .f32 := broadcastInDim S8192x32 ![0, 1] bcast_S1x32_S8192x32_0_1 main_v16
  let main_v18 : FVec F S8192x32 .f32 := addf main_v15 main_v17
  let main_v19 : FVec F S8192x32 .f32 := broadcastInDim S8192x32 ![] bcast_S_S8192x32 main_arg7
  let main_v20 : FVec F S8192x32 .f32 := mulf main_v18 main_v19
  let main_v21 : FVec F S1x32 .f32 := broadcastInDim S1x32 ![1] bcast_S32_S1x32_1 main_arg9
  fn_part1 (F := F) main_arg2 main_arg8 main_v9 main_v20 main_v21
-- ==== Kernel.lean ====
abbrev S8192x128 : Shape := ⟨2, ![8192, 128]⟩
abbrev S8192 : Shape := ⟨1, ![8192]⟩
abbrev S8192x2 : Shape := ⟨2, ![8192, 2]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S8192x32 : Shape := ⟨2, ![8192, 32]⟩
abbrev S1x8192 : Shape := ⟨2, ![1, 8192]⟩
abbrev S2x8192 : Shape := ⟨2, ![2, 8192]⟩
abbrev S3x8192 : Shape := ⟨2, ![3, 8192]⟩
abbrev S128x1 : Shape := ⟨2, ![128, 1]⟩
abbrev S32x1 : Shape := ⟨2, ![32, 1]⟩
abbrev S1x1 : Shape := ⟨2, ![1, 1]⟩
abbrev S32x8192 : Shape := ⟨2, ![32, 8192]⟩
abbrev S8x32x128 : Shape := ⟨3, ![8, 32, 128]⟩
abbrev S8x32x2 : Shape := ⟨3, ![8, 32, 2]⟩
abbrev S8x128 : Shape := ⟨2, ![8, 128]⟩
abbrev S2048x128 : Shape := ⟨2, ![2048, 128]⟩
abbrev S1x2048 : Shape := ⟨2, ![1, 2048]⟩
abbrev S3x2048 : Shape := ⟨2, ![3, 2048]⟩
abbrev S32x2048 : Shape := ⟨2, ![32, 2048]⟩
abbrev S2048x32 : Shape := ⟨2, ![2048, 32]⟩
abbrev S32x8 : Shape := ⟨2, ![32, 8]⟩
abbrev S128x2048 : Shape := ⟨2, ![128, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S1x8 : Shape := ⟨2, ![1, 8]⟩
abbrev S32x128 : Shape := ⟨2, ![32, 128]⟩
abbrev S32x3 : Shape := ⟨2, ![32, 3]⟩
abbrev S1x32x128 : Shape := ⟨3, ![1, 32, 128]⟩
abbrev S1x32x2 : Shape := ⟨3, ![1, 32, 2]⟩
abbrev S32x2 : Shape := ⟨2, ![32, 2]⟩
abbrev S8x32 : Shape := ⟨2, ![8, 32]⟩
abbrev S8x32x1 : Shape := ⟨3, ![8, 32, 1]⟩
abbrev S1x32 : Shape := ⟨2, ![1, 32]⟩
abbrev S1x1x32 : Shape := ⟨3, ![1, 1, 32]⟩
abbrev S32x32 : Shape := ⟨2, ![32, 32]⟩
abbrev S1x2 : Shape := ⟨2, ![1, 2]⟩
abbrev S1x32x32 : Shape := ⟨3, ![1, 32, 32]⟩

abbrev nBuf : Space → Nat
  | .hbm => 40
  | .vmem => 19
  | .smem => 2
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x2, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S_, .f32⟩
  | .hbm, ⟨8, _⟩ => ⟨S8192x32, .f32⟩
  | .hbm, ⟨9, _⟩ => ⟨S32, .f32⟩
  | .hbm, ⟨10, _⟩ => ⟨S1x8192, .i32⟩
  | .hbm, ⟨11, _⟩ => ⟨S_, .f32⟩
  | .hbm, ⟨12, _⟩ => ⟨S1x8192, .f32⟩
  | .hbm, ⟨13, _⟩ => ⟨S2x8192, .f32⟩
  | .hbm, ⟨14, _⟩ => ⟨S3x8192, .f32⟩
  | .hbm, ⟨15, _⟩ => ⟨S128x1, .f32⟩
  | .hbm, ⟨16, _⟩ => ⟨S32x1, .f32⟩
  | .hbm, ⟨17, _⟩ => ⟨S1x1, .f32⟩
  | .hbm, ⟨18, _⟩ => ⟨S32x8192, .f32⟩
  | .hbm, ⟨19, _⟩ => ⟨S32x1, .f32⟩
  | .hbm, ⟨20, _⟩ => ⟨S8192x32, .f32⟩
  | .hbm, ⟨21, _⟩ => ⟨S8x32x128, .f32⟩
  | .hbm, ⟨22, _⟩ => ⟨S8x32x2, .f32⟩
  | .hbm, ⟨23, _⟩ => ⟨S8x128, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S1x1, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1x2048, .i32⟩
  | .local _ .vmem, ⟨3, _⟩ => ⟨S1x2048, .i32⟩
  | .local _ .vmem, ⟨4, _⟩ => ⟨S3x2048, .f32⟩
  | .local _ .vmem, ⟨5, _⟩ => ⟨S3x2048, .f32⟩
  | .local _ .vmem, ⟨6, _⟩ => ⟨S128x128, .f32⟩
  | .local _ .vmem, ⟨7, _⟩ => ⟨S128x1, .f32⟩
  | .local _ .vmem, ⟨8, _⟩ => ⟨S128x32, .f32⟩
  | .local _ .vmem, ⟨9, _⟩ => ⟨S32x1, .f32⟩
  | .local _ .vmem, ⟨10, _⟩ => ⟨S32x2048, .f32⟩
  | .local _ .vmem, ⟨11, _⟩ => ⟨S32x2048, .f32⟩
  | .local _ .vmem, ⟨12, _⟩ => ⟨S32x1, .f32⟩
  | .local _ .vmem, ⟨13, _⟩ => ⟨S2048x32, .f32⟩
  | .local _ .vmem, ⟨14, _⟩ => ⟨S2048x32, .f32⟩
  | .local _ .vmem, ⟨15, _⟩ => ⟨S8x32x128, .f32⟩
  | .local _ .vmem, ⟨16, _⟩ => ⟨S8x32x2, .f32⟩
  | .local _ .vmem, ⟨17, _⟩ => ⟨S8x128, .f32⟩
  | .local _ .vmem, ⟨18, _⟩ => ⟨S32x8, .f32⟩
  | .local _ .smem, ⟨0, _⟩ => ⟨S1x1, .f32⟩
  | .local _ .smem, ⟨1, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_cst_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_stg7_0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![4], ![false]⟩

def k0_off1 (v61 : BitVec 32) : Fin 3 → Nat :=
  let v76 : Index := Scalar.indexCast v61
  let c0_43 : Index := 0#32
  let c0_44 : Index := 0#32
  ![v76.toNat, 0, 0]
def k0_cond2 (v61 : BitVec 32) (v63 : BitVec 32) : BitVec 1 :=
  let v65 : BitVec 1 := Scalar.cmpi .eq v61 v63
  let v66 : BitVec 32 := Scalar.extui v65
  let c0_i32_38 : BitVec 32 := 0#32
  let v67 : BitVec 1 := Scalar.cmpi .ne v66 c0_i32_38
  v67

def k0_off2 (v61 : BitVec 32) : Fin 3 → Nat :=
  let v96 : Index := Scalar.indexCast v61
  let c0_51 : Index := 0#32
  let c0_52 : Index := 0#32
  ![v96.toNat, 0, 0]

def k0_chk1 (v61 : BitVec 32) (v63 : BitVec 32) : Prop :=
  (∀ (k0_h2 : k0_cond2 v61 v63 = 1#1), ∀ a, (k0_off1 v61) a + S1x32x128.size a ≤ S8x32x128.size a) ∧
  (∀ (k0_h2 : k0_cond2 v61 v63 = 1#1), ∀ a, (k0_off2 v61) a + S1x32x2.size a ≤ S8x32x2.size a)
theorem k0_off1_inb : ∀ (v61 : BitVec 32) (v63 : BitVec 32) (k0_hw1 : k0_chk1 v61 v63), ∀ (k0_h2 : k0_cond2 v61 v63 = 1#1), ∀ a, (k0_off1 v61) a + S1x32x128.size a ≤ S8x32x128.size a := fun v61 v63 k0_hw1 k0_h2 => k0_hw1.1 k0_h2
theorem k0_off2_inb : ∀ (v61 : BitVec 32) (v63 : BitVec 32) (k0_hw1 : k0_chk1 v61 v63), ∀ (k0_h2 : k0_cond2 v61 v63 = 1#1), ∀ a, (k0_off2 v61) a + S1x32x2.size a ≤ S8x32x2.size a := fun v61 v63 k0_hw1 k0_h2 => k0_hw1.2 k0_h2

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond12 (i : grid0.Coords) : BitVec 1 :=
  let arg0 : BitVec 32 := BitVec.ofNat 32 (i 0).val
  let c3_i32 : BitVec 32 := 3#32
  let v71 : BitVec 1 := Scalar.cmpi .eq arg0 c3_i32
  let v72 : BitVec 32 := Scalar.extui v71
  let c0_i32_40 : BitVec 32 := 0#32
  let v73 : BitVec 1 := Scalar.cmpi .ne v72 c0_i32_40
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x32x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x128 : Shape := ⟨2, ![8192, 128]⟩
abbrev S8192 : Shape := ⟨1, ![8192]⟩
abbrev S8192x2 : Shape := ⟨2, ![8192, 2]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S8192x32 : Shape := ⟨2, ![8192, 32]⟩
abbrev S1x128 : Shape := ⟨2, ![1, 128]⟩
abbrev S1x32 : Shape := ⟨2, ![1, 32]⟩
abbrev S8192x1 : Shape := ⟨2, ![8192, 1]⟩
abbrev S8192x32x1 : Shape := ⟨3, ![8192, 32, 1]⟩
abbrev S8192x1x128 : Shape := ⟨3, ![8192, 1, 128]⟩
abbrev S8192x32x128 : Shape := ⟨3, ![8192, 32, 128]⟩
abbrev S8x32x128 : Shape := ⟨3, ![8, 32, 128]⟩
abbrev S8x32 : Shape := ⟨2, ![8, 32]⟩
abbrev S8x32x1 : Shape := ⟨3, ![8, 32, 1]⟩
abbrev S8192x1x2 : Shape := ⟨3, ![8192, 1, 2]⟩
abbrev S8192x32x2 : Shape := ⟨3, ![8192, 32, 2]⟩
abbrev S8x32x2 : Shape := ⟨3, ![8, 32, 2]⟩
abbrev S8x32x1x2 : Shape := ⟨4, ![8, 32, 1, 2]⟩
abbrev S8x1x32x2 : Shape := ⟨4, ![8, 1, 32, 2]⟩
abbrev S8x32x32x2 : Shape := ⟨4, ![8, 32, 32, 2]⟩
abbrev S8x32x32 : Shape := ⟨3, ![8, 32, 32]⟩
abbrev S32x32 : Shape := ⟨2, ![32, 32]⟩
abbrev S1x32x32 : Shape := ⟨3, ![1, 32, 32]⟩

abbrev nBuf : Space → Nat
  | .hbm => 167
  | .vmem => 0
  | .smem => 0
  | _ => 0

abbrev hbmTy0_0 (i : Nat) : BufTy := match i % 128 with
  | 0 => ⟨S8192x128, .f32⟩
  | 1 => ⟨S8192, .i32⟩
  | 2 => ⟨S8192x2, .f32⟩
  | 3 => ⟨S128x128, .f32⟩
  | 4 => ⟨S128, .f32⟩
  | 5 => ⟨S128x32, .f32⟩
  | 6 => ⟨S32, .f32⟩
  | 7 => ⟨S_, .f32⟩
  | 8 => ⟨S8192x32, .f32⟩
  | 9 => ⟨S32, .f32⟩
  | 10 => ⟨S8192x128, .f32⟩
  | 11 => ⟨S1x128, .f32⟩
  | 12 => ⟨S8192x128, .f32⟩
  | 13 => ⟨S8192x128, .f32⟩
  | 14 => ⟨S_, .f32⟩
  | 15 => ⟨S8192x128, .f32⟩
  | 16 => ⟨S8192x128, .f32⟩
  | 17 => ⟨S8192x32, .f32⟩
  | 18 => ⟨S1x32, .f32⟩
  | 19 => ⟨S8192x32, .f32⟩
  | 20 => ⟨S8192x32, .f32⟩
  | 21 => ⟨S8192x32, .f32⟩
  | 22 => ⟨S8192x32, .f32⟩
  | 23 => ⟨S1x32, .f32⟩
  | 24 => ⟨S_, .f32⟩
  | 25 => ⟨S1x32, .f32⟩
  | 26 => ⟨S1x32, .i1⟩
  | 27 => ⟨S_, .f32⟩
  | 28 => ⟨S_, .f32⟩
  | 29 => ⟨S8192x32, .i1⟩
  | 30 => ⟨S8192x32, .f32⟩
  | 31 => ⟨S8192x32, .f32⟩
  | 32 => ⟨S8192x32, .f32⟩
  | 33 => ⟨S_, .f32⟩
  | 34 => ⟨S8192x32, .f32⟩
  | 35 => ⟨S8192x32, .f32⟩
  | 36 => ⟨S_, .f32⟩
  | 37 => ⟨S8192, .f32⟩
  | 38 => ⟨S_, .f32⟩
  | 39 => ⟨S8192, .f32⟩
  | 40 => ⟨S8192, .f32⟩
  | 41 => ⟨S8192x1, .f32⟩
  | 42 => ⟨S8192x32, .f32⟩
  | 43 => ⟨S8192x32, .f32⟩
  | 44 => ⟨S8192x32, .f32⟩
  | 45 => ⟨S_, .f32⟩
  | 46 => ⟨S8192, .f32⟩
  | 47 => ⟨S8192x1, .f32⟩
  | 48 => ⟨S8192x32, .f32⟩
  | 49 => ⟨S8192x32, .f32⟩
  | 50 => ⟨S_, .f32⟩
  | 51 => ⟨S32, .f32⟩
  | 52 => ⟨S_, .f32⟩
  | 53 => ⟨S32, .f32⟩
  | 54 => ⟨S32, .f32⟩
  | 55 => ⟨S_, .f32⟩
  | 56 => ⟨S8192x32, .f32⟩
  | 57 => ⟨S8192x32, .f32⟩
  | 58 => ⟨S8192x32, .f32⟩
  | 59 => ⟨S8192x32, .f32⟩
  | 60 => ⟨S_, .f32⟩
  | 61 => ⟨S8192, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S32, .f32⟩
  | 69 => ⟨S_, .f32⟩
  | 70 => ⟨S32, .f32⟩
  | 71 => ⟨S32, .f32⟩
  | 72 => ⟨S32, .f32⟩
  | 73 => ⟨S32, .f32⟩
  | 74 => ⟨S32, .f32⟩
  | 75 => ⟨S_, .f32⟩
  | 76 => ⟨S_, .f32⟩
  | 77 => ⟨S_, .f32⟩
  | 78 => ⟨S32, .f32⟩
  | 79 => ⟨S32, .f32⟩
  | 80 => ⟨S32, .f32⟩
  | 81 => ⟨S32, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S32, .f32⟩
  | 98 => ⟨S32, .f32⟩
  | 99 => ⟨S32, .f32⟩
  | 100 => ⟨S_, .f32⟩
  | 101 => ⟨S_, .f32⟩
  | 102 => ⟨S_, .f32⟩
  | 103 => ⟨S_, .f32⟩
  | 104 => ⟨S8192x32x1, .f32⟩
  | 105 => ⟨S8192x1x128, .f32⟩
  | 106 => ⟨S8192x32x128, .f32⟩
  | 107 => ⟨S8192x32x128, .f32⟩
  | 108 => ⟨S8192x32x128, .f32⟩
  | 109 => ⟨S_, .f32⟩
  | 110 => ⟨S8x32x128, .f32⟩
  | 111 => ⟨S8192x1, .i32⟩
  | 112 => ⟨S8x32x128, .f32⟩
  | 113 => ⟨S_, .f32⟩
  | 114 => ⟨S8x32, .f32⟩
  | 115 => ⟨S8192x1, .i32⟩
  | 116 => ⟨S8x32, .f32⟩
  | 117 => ⟨S8x32x1, .f32⟩
  | 118 => ⟨S_, .f32⟩
  | 119 => ⟨S8x32x1, .f32⟩
  | 120 => ⟨S8x32x1, .f32⟩
  | 121 => ⟨S8x32x128, .f32⟩
  | 122 => ⟨S8x32x128, .f32⟩
  | 123 => ⟨S8192x32x1, .f32⟩
  | 124 => ⟨S8192x1x2, .f32⟩
  | 125 => ⟨S8192x32x2, .f32⟩
  | 126 => ⟨S8192x32x2, .f32⟩
  | 127 => ⟨S8192x32x2, .f32⟩
  | _ => ⟨S8192x128, .f32⟩

abbrev hbmTy0_1 (i : Nat) : BufTy := match i % 128 with
  | 0 => ⟨S_, .f32⟩
  | 1 => ⟨S8x32x2, .f32⟩
  | 2 => ⟨S8192x1, .i32⟩
  | 3 => ⟨S8x32x2, .f32⟩
  | 4 => ⟨S8x32x1, .f32⟩
  | 5 => ⟨S_, .f32⟩
  | 6 => ⟨S8x32x1, .f32⟩
  | 7 => ⟨S8x32x1, .f32⟩
  | 8 => ⟨S8x32x2, .f32⟩
  | 9 => ⟨S8x32x2, .f32⟩
  | 10 => ⟨S8x32x1x2, .f32⟩
  | 11 => ⟨S8x1x32x2, .f32⟩
  | 12 => ⟨S8x32x32x2, .f32⟩
  | 13 => ⟨S8x32x32x2, .f32⟩
  | 14 => ⟨S8x32x32x2, .f32⟩
  | 15 => ⟨S8x32x32x2, .f32⟩
  | 16 => ⟨S_, .f32⟩
  | 17 => ⟨S8x32x32, .f32⟩
  | 18 => ⟨S32x32, .i32⟩
  | 19 => ⟨S32x32, .i32⟩
  | 20 => ⟨S_, .i32⟩
  | 21 => ⟨S32x32, .i32⟩
  | 22 => ⟨S32x32, .i32⟩
  | 23 => ⟨S32x32, .i1⟩
  | 24 => ⟨S32x32, .f32⟩
  | 25 => ⟨S1x32x32, .f32⟩
  | 26 => ⟨S8x32x32, .f32⟩
  | 27 => ⟨S8x32x32, .f32⟩
  | 28 => ⟨S_, .f32⟩
  | 29 => ⟨S1x32x32, .f32⟩
  | 30 => ⟨S1x32x32, .f32⟩
  | 31 => ⟨S8x32x32, .f32⟩
  | 32 => ⟨S8x32x32, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_cst_12 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_cst_17 : Ref sig .tc := ⟨.hbm, 86, rfl⟩
abbrev main_v53 : Ref sig .tc := ⟨.hbm, 87, rfl⟩
abbrev main_cst_18 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_cst_20 : Ref sig .tc := ⟨.hbm, 92, rfl⟩
abbrev main_v56 : Ref sig .tc := ⟨.hbm, 93, rfl⟩
abbrev main_cst_21 : Ref sig .tc := ⟨.hbm, 94, rfl⟩
abbrev main_v57 : Ref sig .tc := ⟨.hbm, 95, rfl⟩
abbrev main_cst_22 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_23 : Ref sig .tc := ⟨.hbm, 100, rfl⟩
abbrev main_v61 : Ref sig .tc := ⟨.hbm, 101, rfl⟩
abbrev main_cst_24 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_25 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_26 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_27 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_28 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_29 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_30 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_31 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_32 : Ref sig .tc := ⟨.hbm, 161, rfl⟩
abbrev main_v112 : Ref sig .tc := ⟨.hbm, 162, rfl⟩
abbrev main_cst_33 : Ref sig .tc := ⟨.hbm, 163, rfl⟩
abbrev main_v113 : Ref sig .tc := ⟨.hbm, 164, rfl⟩
abbrev main_cst_34 : Ref sig .tc := ⟨.hbm, 165, rfl⟩
abbrev main_cst_35 : Ref sig .tc := ⟨.hbm, 166, rfl⟩

abbrev nD : Nat := 1
abbrev τ : Topo := Topo.v7x

variable {F : FTy → Type} [FloatOps F]
-- ==== Proof.Pre.lean ====
/- The precondition of the frames, decoded. -/
module

public import proofs.«01_k».proof.Proof.Gen.Pre_graphs_in_range
public import Idealize.ShloMosaic.Lib.ValueIdx
public import Idealize.ShloMosaic.Lib.Tactic
public import Idealize.ShloMosaic.PureOps.Ideal.Laws

@[expose] public section

set_option maxRecDepth 16384

noncomputable section

namespace Cert.Pre

open Idealize.ShloMosaic

theorem andi_bits (p q : Bool) : IntOp.andi (BitVec.ofBool p) (BitVec.ofBool q) = BitVec.ofBool (p && q) := by
  cases p <;> cases q <;> decide
theorem bit_set (p : Bool) : (BitVec.ofBool p = 1#1) ↔ p = true := by cases p <;> decide

section
variable {F : FTy → Type} [FloatOps F]
open Cert.Pre_graphs_in_range

/-- Every graph number is one of the eight. -/
theorem in_range [Facts] {a0 : FVec F S8192x128 .f32} {a1 : IVec S8192 32} {a2 : FVec F S8192x2 .f32} {a3 : FVec F S128x128 .f32} {a4 : FVec F S128 .f32}
    {a5 : FVec F S128x32 .f32} {a6 : FVec F S32 .f32} {a7 : FVec F S_ .f32} {a8 : FVec F S8192x32 .f32} {a9 : FVec F S32 .f32}
    (h : fn (F := F) a0 a1 a2 a3 a4 a5 a6 a7 a8 a9 = fun _ => 1#1) (j : S8192.Idx) : (a1 j).toNat < 8 := by
  have e := congrFun h j
  simp only [fn, andi, cmpi, broadcastInDim, constantI, IntOp.cmpi, andi_bits, bit_set, Bool.and_eq_true] at e
  obtain ⟨hge, hlt⟩ := e
  simp only [BitVec.sle, BitVec.slt, decide_eq_true_eq, BitVec.toInt, BitVec.toNat_ofNat] at hge hlt
  omega
end

end Cert.Pre

end
-- ==== Proof.KernelIdeal.Body.lean ====
/- What one grid point does to the buffers it carries, as functions of values, and the runs of the pieces of the body:
   the update of one graph's rows (one lemma, used nine times), the start, the softmax block, the branch for a block
   that lies in one graph, and the last point's normalisation. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- The soft assignments of the points of graph `b`, zero at the other points. -/
def graphPart (b : BitVec 32) (s : FVec F S32x2048 .f32) (g : IVec S1x2048 32) : FVec F S32x2048 .f32 :=
  mulf s (broadcastTo S32x2048 (sitofp (F := F) .f32 (extui 32 (cmpi .eq g (broadcast S1x2048 b)) natLt_1_32)) broadcasts_S1x2048_S32x2048)

/-- The sums over the block's points of assignment times (one, first coordinate, second coordinate). -/
def sums3 (z : FVec F S32x2048 .f32) (g : FVec F S3x2048 .f32) : FVec F S32x3 .f32 :=
  matmul dot_S32x2048_S3x2048_S32x3_1_1_0_0_n_n none z g (constant S32x3 .f32 0x00000000#32)

/-- One graph's rows of pooled features with the block's part added. -/
def rowOut (x : FVec F S2048x128 .f32) (z : FVec F S32x2048 .f32) (r : Vec F S1x32x128 .f32) : FVec F S1x32x128 .f32 :=
  shapeCast S1x32x128 (addf (shapeCast S32x128 r shapeCasts_S1x32x128_S32x128)
    (matmul dot_S32x2048_S2048x128_S32x128_1_0_0_1_n_n none z x (constant S32x128 .f32 0x00000000#32))) shapeCasts_S32x128_S1x32x128

/-- The denominators with the block's part added in the column of graph `b`. -/
def colDen (b : BitVec 32) (q : FVec F S32x3 .f32) (d : Vec F S32x8 .f32) : FVec F S32x8 .f32 :=
  shapeCast S32x8 (addf d (mulf (broadcastTo S32x8 (extractStridedSlice S32x1 ![0, 0] q slices_S32x3_o0_0_S32x1) broadcasts_S32x1_S32x8)
    (broadcastTo S32x8 (sitofp (F := F) .f32 (extui 32 (cmpi .eq (iota .tc S1x8 32 [1] iota_S1x8_d1_w32) (broadcast S1x8 b)) natLt_1_32)) broadcasts_S1x8_S32x8)))
    shapeCasts_S32x8_S32x8

/-- One graph's rows of centroid sums with the block's part added. -/
def rowMu (q : FVec F S32x3 .f32) (r : Vec F S1x32x2 .f32) : FVec F S1x32x2 .f32 :=
  shapeCast S1x32x2 (addf (shapeCast S32x2 r shapeCasts_S1x32x2_S32x2)
    (extractStridedSlice S32x2 ![0, 1] q slices_S32x3_o0_1_S32x2)) shapeCasts_S32x2_S1x32x2

/-- The three buffers that collect sums over the points. -/
structure Acc (F : FTy → Type) where
  out : Vec F S8x32x128 .f32
  mu : Vec F S8x32x2 .f32
  den : Vec F S32x8 .f32

theorem inbOut (b : Fin 8) : ∀ a, (![b.val, 0, 0] : Fin 3 → ℕ) a + S1x32x128.size a ≤ S8x32x128.size a := by
  have := b.isLt
  intro a; fin_cases a <;> simp <;> omega

theorem inbMu (b : Fin 8) : ∀ a, (![b.val, 0, 0] : Fin 3 → ℕ) a + S1x32x2.size a ≤ S8x32x2.size a := by
  have := b.isLt
  intro a; fin_cases a <;> simp <;> omega

/-- Replace the rows of one graph, and the denominators, by functions of what they hold. -/
def Acc.at (st : Acc F) (b : Fin 8) (p12 : Vec F S1x32x128 .f32 → FVec F S1x32x128 .f32) (p13 : Vec F S1x32x2 .f32 → FVec F S1x32x2 .f32)
    (p15 : Vec F S32x8 .f32 → FVec F S32x8 .f32) : Acc F where
  out := VecWindow.put st.out ![b.val, 0, 0] S1x32x128.size (p12 (VecWindow.window st.out ![b.val, 0, 0] S1x32x128.size (inbOut b)))
  mu := VecWindow.put st.mu ![b.val, 0, 0] S1x32x2.size (p13 (VecWindow.window st.mu ![b.val, 0, 0] S1x32x2.size (inbMu b)))
  den := p15 st.den

/-- The index `(i, j)` of a rank-two shape. -/
abbrev idx2 {n k : ℕ} (i : Fin n) (j : Fin k) : Shape.Idx ⟨2, ![n, k]⟩ := fun a => match a with | 0 => i | 1 => j

/-! ## One graph's update -/

/-- Read, add and store one graph's rows, then go on with `K`. -/
def updRows {β : Type} (arg12 : Memref sig .tc .vmem S8x32x128 .f32) (arg13 : Memref sig .tc .vmem S8x32x2 .f32) (arg15 : Memref sig .tc .vmem S32x8 .f32)
    (off12 : Fin 3 → ℕ) (inb12 : ∀ a, off12 a + S1x32x128.size a ≤ S8x32x128.size a)
    (off13 : Fin 3 → ℕ) (inb13 : ∀ a, off13 a + S1x32x2.size a ≤ S8x32x2.size a)
    (p12 : Vec F S1x32x128 .f32 → FVec F S1x32x128 .f32) (p13 : Vec F S1x32x2 .f32 → FVec F S1x32x2 .f32) (p15 : Vec F S32x8 .f32 → FVec F S32x8 .f32)
    (K : Prog (TpuEff nD τ sig (Elt F) Λ₀ .tc) β) : Prog (TpuEff nD τ sig (Elt F) Λ₀ .tc) β := do
  let r12 : Vec F S1x32x128 .f32 ← Prog.lift (.load arg12 (Rect.unit (s := S8x32x128) off12 S1x32x128.size inb12).toLoadRect (View.loadsAt_vmem h_S1x32x128))
  let _r12 : Vec F S1x32x128 .f32 ← Prog.lift (.load arg12 (Rect.unit (s := S8x32x128) off12 S1x32x128.size inb12).toLoadRect (View.loadsAt_vmem h_S1x32x128))
  Prog.lift (.store arg12 (Rect.unit (s := S8x32x128) off12 S1x32x128.size inb12) (p12 r12) Finset.univ (View.stores_vmem_bits_univ h_S1x32x128 rfl) (.inl rfl))
  let r15 : Vec F S32x8 .f32 ← Prog.lift (.load arg15 (Rect.unit (s := S32x8) ![0, 0] S32x8.size inb_S32x8_S32x8_0_0).toLoadRect (View.loadsAt_vmem h_S32x8))
  let _r15 : Vec F S32x8 .f32 ← Prog.lift (.load arg15 (Rect.unit (s := S32x8) ![0, 0] S32x8.size inb_S32x8_S32x8_0_0).toLoadRect (View.loadsAt_vmem h_S32x8))
  Prog.lift (.store arg15 (Rect.unit (s := S32x8) ![0, 0] S32x8.size inb_S32x8_S32x8_0_0) (p15 r15) Finset.univ (View.stores_vmem_bits_univ h_S32x8 rfl) (.inl rfl))
  let r13 : Vec F S1x32x2 .f32 ← Prog.lift (.load arg13 (Rect.unit (s := S8x32x2) off13 S1x32x2.size inb13).toLoadRect (View.loadsAt_vmem h_S1x32x2))
  let _r13 : Vec F S1x32x2 .f32 ← Prog.lift (.load arg13 (Rect.unit (s := S8x32x2) off13 S1x32x2.size inb13).toLoadRect (View.loadsAt_vmem h_S1x32x2))
  Prog.lift (.store arg13 (Rect.unit (s := S8x32x2) off13 S1x32x2.size inb13) (p13 r13) Finset.univ (View.stores_vmem_bits_univ h_S1x32x2 rfl) (.inl rfl))
  K

/-- The three collecting buffers held at the values `st`. -/
def holds (c : Dev nD) (arg12 : Memref sig .tc .vmem S8x32x128 .f32) (arg13 : Memref sig .tc .vmem S8x32x2 .f32) (arg15 : Memref sig .tc .vmem S32x8 .f32)
    (st : Acc F) : sProp 𝕄 :=
  iprop(owns (c : Thread nD τ) arg12 fullShare st.out ∗ owns (c : Thread nD τ) arg13 fullShare st.mu ∗ owns (c : Thread nD τ) arg15 fullShare st.den)

theorem updRows_wp {β : Type} (c : Dev nD) (E : Set ℕ)
    (arg12 : Memref sig .tc .vmem S8x32x128 .f32) (arg13 : Memref sig .tc .vmem S8x32x2 .f32) (arg15 : Memref sig .tc .vmem S32x8 .f32)
    (b : Fin 8) (off12 : Fin 3 → ℕ) (h12 : off12 = ![b.val, 0, 0]) (inb12 : ∀ a, off12 a + S1x32x128.size a ≤ S8x32x128.size a)
    (off13 : Fin 3 → ℕ) (h13 : off13 = ![b.val, 0, 0]) (inb13 : ∀ a, off13 a + S1x32x2.size a ≤ S8x32x2.size a)
    (p12 : Vec F S1x32x128 .f32 → FVec F S1x32x128 .f32) (p13 : Vec F S1x32x2 .f32 → FVec F S1x32x2 .f32) (p15 : Vec F S32x8 .f32 → FVec F S32x8 .f32)
    (K : Prog (TpuEff nD τ sig (Elt F) Λ₀ .tc) β) (Q : β → sProp 𝕄) (st : Acc F) :
    iprop(holds c arg12 arg13 arg15 st ∗ (holds c arg12 arg13 arg15 (st.at b p12 p13 p15) -∗ wp frame (wpE (defs₀ (F := F)) Variants.none c none) E K Q))
      ⊢ wp frame (wpE (defs₀ (F := F)) Variants.none c none) E (updRows arg12 arg13 arg15 off12 inb12 off13 inb13 p12 p13 p15 K) Q := by
  subst h12 h13
  unfold updRows holds owns
  iintro ⟨⟨⟨%f0, %hf0, H0⟩, ⟨%f1, %hf1, H1⟩, ⟨%f2, %hf2, H2⟩⟩, Hk⟩
  sl_exec
  iapply Hk
  isplitl [H0]
  · iexists _; isplitr
    swap; · iexact H0
    ipureintro
    rw [View.read_writes_cons_put _ _ _ _ _ rfl, View.writes_nil, View.readAt_unit _ _ _ rfl (inbOut b), hf0]
    rfl
  isplitl [H1]
  · iexists _; isplitr
    swap; · iexact H1
    ipureintro
    rw [View.read_writes_cons_put _ _ _ _ _ rfl, View.writes_nil, View.readAt_unit _ _ _ rfl (inbMu b), hf1]
    rfl
  · iexists _; isplitr
    swap; · iexact H2
    ipureintro
    rw [View.read_writes_full, View.readAt_full, hf2]
    rfl

/-- One when graph `b` lies between the first and the last graph of the block, and zero otherwise. -/
abbrev graphWord (b : Fin 8) (lo hi : BitVec 32) : BitVec 32 :=
  Scalar.extui (Scalar.andi (Scalar.cmpi .sle lo (BitVec.ofNat 32 b.val)) (Scalar.cmpi .sge hi (BitVec.ofNat 32 b.val)))

/-- The condition under which graph `b` is updated when the block spans several graphs. -/
abbrev graphCond (b : Fin 8) (lo hi : BitVec 32) : BitVec 1 :=
  Scalar.cmpi .ne (graphWord b lo hi) 0#32

/-- Update one graph's rows if the block reaches it, then go on with `K`. -/
def graphBlk {β : Type} (arg12 : Memref sig .tc .vmem S8x32x128 .f32) (arg13 : Memref sig .tc .vmem S8x32x2 .f32) (arg15 : Memref sig .tc .vmem S32x8 .f32)
    (b : Fin 8) (lo hi : BitVec 32) (x : FVec F S2048x128 .f32) (s : FVec F S32x2048 .f32) (g : IVec S1x2048 32) (q : FVec F S3x2048 .f32)
    (K : Prog (TpuEff nD τ sig (Elt F) Λ₀ .tc) β) : Prog (TpuEff nD τ sig (Elt F) Λ₀ .tc) β :=
  if graphCond b lo hi = 1#1 then
    updRows arg12 arg13 arg15 ![b.val, 0, 0] (inbOut b) ![b.val, 0, 0] (inbMu b) (rowOut x (graphPart (BitVec.ofNat 32 b.val) s g))
      (rowMu (sums3 (graphPart (BitVec.ofNat 32 b.val) s g) q)) (colDen (BitVec.ofNat 32 b.val) (sums3 (graphPart (BitVec.ofNat 32 b.val) s g) q)) K
  else K

/-- One graph's update of the values. -/
def Acc.graph (x : FVec F S2048x128 .f32) (s : FVec F S32x2048 .f32) (g : IVec S1x2048 32) (q : FVec F S3x2048 .f32) (lo hi : BitVec 32)
    (st : Acc F) (b : Fin 8) : Acc F :=
  if graphCond b lo hi = 1#1 then
    st.at b (rowOut x (graphPart (BitVec.ofNat 32 b.val) s g))
      (rowMu (sums3 (graphPart (BitVec.ofNat 32 b.val) s g) q)) (colDen (BitVec.ofNat 32 b.val) (sums3 (graphPart (BitVec.ofNat 32 b.val) s g) q))
  else st

theorem graphBlk_wp {β : Type} (c : Dev nD) (E : Set ℕ)
    (arg12 : Memref sig .tc .vmem S8x32x128 .f32) (arg13 : Memref sig .tc .vmem S8x32x2 .f32) (arg15 : Memref sig .tc .vmem S32x8 .f32)
    (b : Fin 8) (lo hi : BitVec 32) (x : FVec F S2048x128 .f32) (s : FVec F S32x2048 .f32) (g : IVec S1x2048 32) (q : FVec F S3x2048 .f32)
    (K : Prog (TpuEff nD τ sig (Elt F) Λ₀ .tc) β) (Q : β → sProp 𝕄) (st : Acc F) :
    iprop(holds c arg12 arg13 arg15 st ∗ (holds c arg12 arg13 arg15 (st.graph x s g q lo hi b) -∗ wp frame (wpE (defs₀ (F := F)) Variants.none c none) E K Q))
      ⊢ wp frame (wpE (defs₀ (F := F)) Variants.none c none) E (graphBlk arg12 arg13 arg15 b lo hi x s g q K) Q := by
  unfold graphBlk Acc.graph
  by_cases h : graphCond b lo hi = 1#1
  · rw [if_pos h, if_pos h]
    exact updRows_wp c E arg12 arg13 arg15 b _ rfl (inbOut b) _ rfl (inbMu b) _ _ _ K Q st
  · rw [if_neg h, if_neg h]
    iintro ⟨H, Hk⟩
    iapply Hk
    iexact H

/-! ## The printed parts -/

variable (i : grid0.Coords) (arg1 : Memref sig .tc .vmem S2048x128 .f32) (harg1 : arg1.IsWhole) (arg2 : Memref sig .tc .vmem S1x2048 .i32) (harg2 : arg2.IsWhole) (arg3 : Memref sig .tc .vmem S3x2048 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x32 .f32) (harg6 : arg6.IsWhole) (arg7 : Memref sig .tc .vmem S32x1 .f32) (harg7 : arg7.IsWhole) (arg8 : Memref sig .tc .smem S1x1 .f32) (harg8 : arg8.IsWhole) (arg9 : Memref sig .tc .vmem S32x2048 .f32) (harg9 : arg9.IsWhole) (arg10 : Memref sig .tc .vmem S32x1 .f32) (harg10 : arg10.IsWhole) (arg11 : Memref sig .tc .vmem S2048x32 .f32) (harg11 : arg11.IsWhole) (arg12 : Memref sig .tc .vmem S8x32x128 .f32) (harg12 : arg12.IsWhole) (arg13 : Memref sig .tc .vmem S8x32x2 .f32) (harg13 : arg13.IsWhole) (arg14 : Memref sig .tc .vmem S8x128 .f32) (harg14 : arg14.IsWhole) (arg15 : Memref sig .tc .vmem S32x8 .f32) (harg15 : arg15.IsWhole) (arg16 : Memref sig .tc .smem S1x1 .f32) (harg16 : arg16.IsWhole)

/-- The printed part that updates graphs 0 to 5 is the chain of their updates. -/
theorem part1_eq
    (x : Vec F S2048x128 .f32) (s : FVec F S32x2048 .f32) (g : IVec S1x2048 32) (q : FVec F S3x2048 .f32) (lo hi : BitVec 32) :
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x s g q lo hi (iota .tc S1x8 32 [1] iota_S1x8_d1_w32)
      = graphBlk arg12 arg13 arg15 0 lo hi x s g q (graphBlk arg12 arg13 arg15 1 lo hi x s g q (graphBlk arg12 arg13 arg15 2 lo hi x s g q
          (graphBlk arg12 arg13 arg15 3 lo hi x s g q (graphBlk arg12 arg13 arg15 4 lo hi x s g q (graphBlk arg12 arg13 arg15 5 lo hi x s g q
            (pure (graphWord 6 lo hi))))))) := rfl

/-- The block's logits after masking, gating and noise, less their greatest, exponentiated, with the sum: what the softmax divides. -/
abbrev expo (x : Vec F S2048x128 .f32) (x4 : Vec F S128x128 .f32) (x5 : Vec F S128x1 .f32) (x6 : Vec F S128x32 .f32) (x7 : Vec F S32x1 .f32)
    (x8 : Vec F S1x1 .f32) (x9 : Vec F S32x2048 .f32) (x10 : Vec F S32x1 .f32) : FVec F S32x2048 .f32 :=
  k0_pay75 x x4 x5 x6 x7 (x8 (idx2 0 0)) x10 x9

abbrev expoSum (x : Vec F S2048x128 .f32) (x4 : Vec F S128x128 .f32) (x5 : Vec F S128x1 .f32) (x6 : Vec F S128x32 .f32) (x7 : Vec F S32x1 .f32)
    (x8 : Vec F S1x1 .f32) (x9 : Vec F S32x2048 .f32) (x10 : Vec F S32x1 .f32) : FVec F S1x2048 .f32 :=
  k0_pay76 x x4 x5 x6 x7 (x8 (idx2 0 0)) x10 x9

/-- The collecting buffers at the start of a point: cleared at the first point. -/
def Acc.start (i : grid0.Coords) (st : Acc F) : Acc F := if k0_cond1 i = 1#1 then ⟨k0_pay71, k0_pay72, k0_pay73⟩ else st
def auxStart (i : grid0.Coords) (a : Vec F S8x128 .f32) : Vec F S8x128 .f32 := if k0_cond1 i = 1#1 then k0_pay74 else a
def entStart (i : grid0.Coords) (e : Vec F S1x1 .f32) : Vec F S1x1 .f32 := if k0_cond1 i = 1#1 then (fun _ => Scalar.ofBits .f32 0x00000000#32) else e

set_option maxHeartbeats 4000000 in
theorem part8_wp (c : Dev nD) (E : Set ℕ) (x1 : Vec F S2048x128 .f32) (x4 : Vec F S128x128 .f32) (x5 : Vec F S128x1 .f32) (x6 : Vec F S128x32 .f32) (x7 : Vec F S32x1 .f32)
    (x8 : Vec F S1x1 .f32) (x9 : Vec F S32x2048 .f32) (x10 : Vec F S32x1 .f32) (st : Acc F) (a : Vec F S8x128 .f32) (e : Vec F S1x1 .f32)
    (Φ : (Σ' (arg0 : BitVec 32) (v3 : Vec F S2048x128 .f32) (v31 : FVec F S32x2048 .f32), FVec F S1x2048 .f32) → sProp 𝕄) :
    iprop((owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare x9 ∗ owns (c : Thread nD τ) arg10 fullShare x10)
        ∗ holds c arg12 arg13 arg15 st ∗ owns (c : Thread nD τ) arg14 fullShare a ∗ owns (c : Thread nD τ) arg16 fullShare e
        ∗ (((owns (c : Thread nD τ) arg1 fullShare x1 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare x9 ∗ owns (c : Thread nD τ) arg10 fullShare x10)
        ∗ holds c arg12 arg13 arg15 (st.start i) ∗ owns (c : Thread nD τ) arg14 fullShare (auxStart i a) ∗ owns (c : Thread nD τ) arg16 fullShare (entStart i e))
          -∗ Φ ⟨BitVec.ofNat 32 (i 0).val, x1, expo x1 x4 x5 x6 x7 x8 x9 x10, expoSum x1 x4 x5 x6 x7 x8 x9 x10⟩))
      ⊢ wp frame (wpE (defs₀ (F := F)) Variants.none c none) E
          (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Φ := by
  simp only [k0_part8_eq_skeleton]; unfold k0_part8_skel
  unfold holds owns
  by_cases hc : k0_cond1 i = 1#1
  · have h1 : st.start i = ⟨k0_pay71, k0_pay72, k0_pay73⟩ := if_pos hc
    have h2 : auxStart i a = k0_pay74 := if_pos hc
    have h3 : entStart i e = fun _ => Scalar.ofBits .f32 0x00000000#32 := if_pos hc
    rw [h1, h2, h3]
    iintro ⟨⟨⟨%f1, %hf1, H1⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f12, %hf12, H12⟩, ⟨%f13, %hf13, H13⟩, ⟨%f15, %hf15, H15⟩⟩, ⟨%f14, %hf14, H14⟩, ⟨%f16, %hf16, H16⟩, Hk⟩
    obtain rfl : x1 = View.readAt (Elt F) arg1.view (Rect.unit (s := S2048x128) ![0, 0] S2048x128.size inb_S2048x128_S2048x128_0_0).toLoadRect f1 := hf1.symm.trans (View.readAt_full _ _ _).symm
    obtain rfl : x4 = View.readAt (Elt F) arg4.view (Rect.unit (s := S128x128) ![0, 0] S128x128.size inb_S128x128_S128x128_0_0).toLoadRect f4 := hf4.symm.trans (View.readAt_full _ _ _).symm
    obtain rfl : x5 = View.readAt (Elt F) arg5.view (Rect.unit (s := S128x1) ![0, 0] S128x1.size inb_S128x1_S128x1_0_0).toLoadRect f5 := hf5.symm.trans (View.readAt_full _ _ _).symm
    obtain rfl : x6 = View.readAt (Elt F) arg6.view (Rect.unit (s := S128x32) ![0, 0] S128x32.size inb_S128x32_S128x32_0_0).toLoadRect f6 := hf6.symm.trans (View.readAt_full _ _ _).symm
    obtain rfl : x7 = View.readAt (Elt F) arg7.view (Rect.unit (s := S32x1) ![0, 0] S32x1.size inb_S32x1_S32x1_0_0).toLoadRect f7 := hf7.symm.trans (View.readAt_full _ _ _).symm
    obtain rfl : x9 = View.readAt (Elt F) arg9.view (Rect.unit (s := S32x2048) ![0, 0] S32x2048.size inb_S32x2048_S32x2048_0_0).toLoadRect f9 := hf9.symm.trans (View.readAt_full _ _ _).symm
    obtain rfl : x10 = View.readAt (Elt F) arg10.view (Rect.unit (s := S32x1) ![0, 0] S32x1.size inb_S32x1_S32x1_0_0).toLoadRect f10 := hf10.symm.trans (View.readAt_full _ _ _).symm
    subst hf8
    sl_exec
    sl_step
    have h8 : part8_wp.sl.r_1 arg8 c f8 = View.read (Elt F) arg8.view f8 (idx2 0 0) := congrArg (View.read (Elt F) arg8.view f8) (funext fun a => by fin_cases a <;> rfl)
    rw [h8]
    iapply Hk
    isplitl [H1 H4 H5 H6 H7 H8 H9 H10]
    · isplitl [H1]
      · iexists f1; isplitr
        · ipureintro; exact hf1
        iexact H1
      isplitl [H4]
      · iexists f4; isplitr
        · ipureintro; exact hf4
        iexact H4
      isplitl [H5]
      · iexists f5; isplitr
        · ipureintro; exact hf5
        iexact H5
      isplitl [H6]
      · iexists f6; isplitr
        · ipureintro; exact hf6
        iexact H6
      isplitl [H7]
      · iexists f7; isplitr
        · ipureintro; exact hf7
        iexact H7
      isplitl [H8]
      · iexists f8; isplitr
        · ipureintro; rfl
        iexact H8
      isplitl [H9]
      · iexists f9; isplitr
        · ipureintro; exact hf9
        iexact H9
      · iexists f10; isplitr
        · ipureintro; exact hf10
        iexact H10
    isplitl [H12 H13 H15]
    · isplitl [H12]
      · iexists _; isplitr
        swap; · iexact H12
        ipureintro; exact View.read_writes_full _ _ _ _ _
      isplitl [H13]
      · iexists _; isplitr
        swap; · iexact H13
        ipureintro; exact View.read_writes_full _ _ _ _ _
      · iexists _; isplitr
        swap; · iexact H15
        ipureintro; exact View.read_writes_full _ _ _ _ _
    isplitl [H14]
    · iexists _; isplitr
      swap; · iexact H14
      ipureintro; exact View.read_writes_full _ _ _ _ _
    · iexists _; isplitr
      swap; · iexact H16
      ipureintro; exact View.read_writes_full _ _ _ _ _
  · have h1 : st.start i = st := if_neg hc
    have h2 : auxStart i a = a := if_neg hc
    have h3 : entStart i e = e := if_neg hc
    rw [h1, h2, h3]
    iintro ⟨⟨⟨%f1, %hf1, H1⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f12, %hf12, H12⟩, ⟨%f13, %hf13, H13⟩, ⟨%f15, %hf15, H15⟩⟩, ⟨%f14, %hf14, H14⟩, ⟨%f16, %hf16, H16⟩, Hk⟩
    obtain rfl : x1 = View.readAt (Elt F) arg1.view (Rect.unit (s := S2048x128) ![0, 0] S2048x128.size inb_S2048x128_S2048x128_0_0).toLoadRect f1 := hf1.symm.trans (View.readAt_full _ _ _).symm
    obtain rfl : x4 = View.readAt (Elt F) arg4.view (Rect.unit (s := S128x128) ![0, 0] S128x128.size inb_S128x128_S128x128_0_0).toLoadRect f4 := hf4.symm.trans (View.readAt_full _ _ _).symm
    obtain rfl : x5 = View.readAt (Elt F) arg5.view (Rect.unit (s := S128x1) ![0, 0] S128x1.size inb_S128x1_S128x1_0_0).toLoadRect f5 := hf5.symm.trans (View.readAt_full _ _ _).symm
    obtain rfl : x6 = View.readAt (Elt F) arg6.view (Rect.unit (s := S128x32) ![0, 0] S128x32.size inb_S128x32_S128x32_0_0).toLoadRect f6 := hf6.symm.trans (View.readAt_full _ _ _).symm
    obtain rfl : x7 = View.readAt (Elt F) arg7.view (Rect.unit (s := S32x1) ![0, 0] S32x1.size inb_S32x1_S32x1_0_0).toLoadRect f7 := hf7.symm.trans (View.readAt_full _ _ _).symm
    obtain rfl : x9 = View.readAt (Elt F) arg9.view (Rect.unit (s := S32x2048) ![0, 0] S32x2048.size inb_S32x2048_S32x2048_0_0).toLoadRect f9 := hf9.symm.trans (View.readAt_full _ _ _).symm
    obtain rfl : x10 = View.readAt (Elt F) arg10.view (Rect.unit (s := S32x1) ![0, 0] S32x1.size inb_S32x1_S32x1_0_0).toLoadRect f10 := hf10.symm.trans (View.readAt_full _ _ _).symm
    subst hf8
    sl_exec
    sl_step
    have h8 : part8_wp.sl.r_2 arg8 c f8 = View.read (Elt F) arg8.view f8 (idx2 0 0) := congrArg (View.read (Elt F) arg8.view f8) (funext fun a => by fin_cases a <;> rfl)
    rw [h8]
    iapply Hk
    isplitl [H1 H4 H5 H6 H7 H8 H9 H10]
    · isplitl [H1]
      · iexists f1; isplitr
        · ipureintro; exact hf1
        iexact H1
      isplitl [H4]
      · iexists f4; isplitr
        · ipureintro; exact hf4
        iexact H4
      isplitl [H5]
      · iexists f5; isplitr
        · ipureintro; exact hf5
        iexact H5
      isplitl [H6]
      · iexists f6; isplitr
        · ipureintro; exact hf6
        iexact H6
      isplitl [H7]
      · iexists f7; isplitr
        · ipureintro; exact hf7
        iexact H7
      isplitl [H8]
      · iexists f8; isplitr
        · ipureintro; rfl
        iexact H8
      isplitl [H9]
      · iexists f9; isplitr
        · ipureintro; exact hf9
        iexact H9
      · iexists f10; isplitr
        · ipureintro; exact hf10
        iexact H10
    isplitl [H12 H13 H15]
    · isplitl [H12]
      · iexists f12; isplitr
        · ipureintro; exact hf12
        iexact H12
      isplitl [H13]
      · iexists f13; isplitr
        · ipureintro; exact hf13
        iexact H13
      · iexists f15; isplitr
        · ipureintro; exact hf15
        iexact H15
    isplitl [H14]
    · iexists f14; isplitr
      · ipureintro; exact hf14
      iexact H14
    · iexists f16; isplitr
      · ipureintro; exact hf16
      iexact H16

end Cert.KernelIdeal.Gen

end
-- ==== Proof.KernelIdeal.Body2.lean ====
/- The middle of the body: the softmax block is stored, the entropy is added, and a block of one graph is pooled. -/
module

public import proofs.«01_k».proof.Proof.KernelIdeal.Body
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word at the first point of a block, as the one-element vector the body reads. -/
abbrev firstOf (x2 : Vec F S1x2048 .i32) : Vec F S1x1 .i32 := VecWindow.window x2 ![0, 0] S1x1.size inb_S1x2048_S1x1_0_0
/-- The word at the last point of a block. -/
abbrev lastOf (x2 : Vec F S1x2048 .i32) : Vec F S1x1 .i32 := VecWindow.window x2 ![0, 2047] S1x1.size inb_S1x2048_S1x1_0_2047
abbrev wordOf (v : Vec F S1x1 .i32) : BitVec 32 := extractAt ![0, 0] v inpos_S1x1_p0_0

/-- The update when the block lies in the one graph `b`. -/
def Acc.single (x : Vec F S2048x128 .f32) (s : FVec F S32x2048 .f32) (z : FVec F S1x2048 .f32) (q : Vec F S3x2048 .f32) (v60 v62 : Vec F S1x1 .i32)
    (b : Fin 8) (st : Acc F) : Acc F :=
  if k0_cond2 (wordOf v60) (wordOf v62) = 1#1 then st.at b (k0_pay83 x s z) (k0_pay85 s z q) (k0_pay84 s z q v60) else st

variable (i : grid0.Coords) (arg1 : Memref sig .tc .vmem S2048x128 .f32) (harg1 : arg1.IsWhole) (arg2 : Memref sig .tc .vmem S1x2048 .i32) (harg2 : arg2.IsWhole) (arg3 : Memref sig .tc .vmem S3x2048 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x32 .f32) (harg6 : arg6.IsWhole) (arg7 : Memref sig .tc .vmem S32x1 .f32) (harg7 : arg7.IsWhole) (arg8 : Memref sig .tc .smem S1x1 .f32) (harg8 : arg8.IsWhole) (arg9 : Memref sig .tc .vmem S32x2048 .f32) (harg9 : arg9.IsWhole) (arg10 : Memref sig .tc .vmem S32x1 .f32) (harg10 : arg10.IsWhole) (arg11 : Memref sig .tc .vmem S2048x32 .f32) (harg11 : arg11.IsWhole) (arg12 : Memref sig .tc .vmem S8x32x128 .f32) (harg12 : arg12.IsWhole) (arg13 : Memref sig .tc .vmem S8x32x2 .f32) (harg13 : arg13.IsWhole) (arg14 : Memref sig .tc .vmem S8x128 .f32) (harg14 : arg14.IsWhole) (arg15 : Memref sig .tc .vmem S32x8 .f32) (harg15 : arg15.IsWhole) (arg16 : Memref sig .tc .smem S1x1 .f32) (harg16 : arg16.IsWhole)

set_option maxHeartbeats 4000000 in
theorem part9_wp (c : Dev nD) (E : Set ℕ) (x : Vec F S2048x128 .f32) (s : FVec F S32x2048 .f32) (z : FVec F S1x2048 .f32) (w : BitVec 32)
    (x2 : Vec F S1x2048 .i32) (x3 : Vec F S3x2048 .f32) (x11 : Vec F S2048x32 .f32) (e : Vec F S1x1 .f32) (st : Acc F) (v60 v62 : Vec F S1x1 .i32)
    (h60 : v60 = firstOf x2) (h62 : v62 = lastOf x2) (b : Fin 8) (hchk : k0_chk1 (wordOf v60) (wordOf v62))
    (ho1 : k0_off1 (wordOf v60) = ![b.val, 0, 0]) (ho2 : k0_off2 (wordOf v60) = ![b.val, 0, 0])
    (Φ : (Σ' (v40 : FVec F S32x2048 .f32) (v57 : IVec S1x2048 32) (v59 : FVec F S3x2048 .f32) (v61 : BitVec 32) (v63 : BitVec 32) (v64 : IVec S1x8 32) (v69 : BitVec 32), BitVec 32) → sProp 𝕄) :
    iprop((owns (c : Thread nD τ) arg2 fullShare x2 ∗ owns (c : Thread nD τ) arg3 fullShare x3) ∗ owns (c : Thread nD τ) arg11 fullShare x11 ∗ owns (c : Thread nD τ) arg16 fullShare e ∗ holds c arg12 arg13 arg15 st
        ∗ (((owns (c : Thread nD τ) arg2 fullShare x2 ∗ owns (c : Thread nD τ) arg3 fullShare x3) ∗ owns (c : Thread nD τ) arg11 fullShare (k0_pay78 s z) ∗ owns (c : Thread nD τ) arg16 fullShare (fun _ => k0_pay79 s z (e (idx2 0 0))) ∗ holds c arg12 arg13 arg15 (st.single x s z x3 v60 v62 b))
          -∗ Φ ⟨k0_pay77 s z, k0_pay80 x2, k0_pay81 x3, wordOf v60, wordOf v62, iota .tc S1x8 32 [1] iota_S1x8_d1_w32, Scalar.extui (Scalar.cmpi .ne (wordOf v60) (wordOf v62)), 0#32⟩))
      ⊢ wp frame (wpE (defs₀ (F := F)) Variants.none c none) E
          (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x s z) Φ := by
  simp only [k0_part9_eq_skeleton]; unfold k0_part9_skel
  unfold holds owns
  have hk' : ∀ lo hi, lo = wordOf v60 → hi = wordOf v62 → k0_chk1 lo hi := fun _ _ h h' => by rw [h, h']; exact hchk
  by_cases hc : k0_cond2 (wordOf v60) (wordOf v62) = 1#1
  · have h1 : st.single x s z x3 v60 v62 b = st.at b (k0_pay83 x s z) (k0_pay85 s z x3) (k0_pay84 s z x3 v60) := if_pos hc
    rw [h1]
    have hc' : ∀ lo hi, lo = wordOf v60 → hi = wordOf v62 → k0_cond2 lo hi = 1#1 := fun _ _ h h' => by rw [h, h']; exact hc
    iintro ⟨⟨⟨%f2, %hf2, H2⟩, ⟨%f3, %hf3, H3⟩⟩, ⟨%f11, %hf11, H11⟩, ⟨%f16, %hf16, H16⟩, ⟨⟨%f12, %hf12, H12⟩, ⟨%f13, %hf13, H13⟩, ⟨%f15, %hf15, H15⟩⟩, Hk⟩
    obtain rfl : v60 = View.readAt (Elt F) arg2.view (Rect.unit (s := S1x2048) ![0, 0] S1x1.size inb_S1x2048_S1x1_0_0).toLoadRect f2 := by
      rw [h60, ← hf2]; exact (View.readAt_unit _ _ _ rfl _).symm
    obtain rfl : v62 = View.readAt (Elt F) arg2.view (Rect.unit (s := S1x2048) ![0, 2047] S1x1.size inb_S1x2048_S1x1_0_2047).toLoadRect f2 := by
      rw [h62, ← hf2]; exact (View.readAt_unit _ _ _ rfl _).symm
    clear h60 h62
    obtain rfl : x2 = View.readAt (Elt F) arg2.view (Rect.unit (s := S1x2048) ![0, 0] S1x2048.size inb_S1x2048_S1x2048_0_0).toLoadRect f2 := hf2.symm.trans (View.readAt_full _ _ _).symm
    obtain rfl : x3 = View.readAt (Elt F) arg3.view (Rect.unit (s := S3x2048) ![0, 0] S3x2048.size inb_S3x2048_S3x2048_0_0).toLoadRect f3 := hf3.symm.trans (View.readAt_full _ _ _).symm
    sl_exec (disch := first | exact hk' _ _ rfl rfl | exact hc' _ _ rfl rfl)
    sl_step
    unfold part9_wp.sl.v69 part9_wp.sl.v68 part9_wp.sl.v61 part9_wp.sl.v63 part9_wp.sl.v64
    iapply Hk
    isplitl [H2 H3]
    · isplitl [H2]
      · iexists f2; isplitr
        · ipureintro; exact hf2
        iexact H2
      · iexists f3; isplitr
        · ipureintro; exact hf3
        iexact H3
    isplitl [H11]
    · iexists _; isplitr
      swap; · iexact H11
      ipureintro; exact View.read_writes_full _ _ _ _ _
    isplitl [H16]
    · iexists _; isplitr
      swap; · iexact H16
      ipureintro; rw [View.read_writes_full]
      funext _
      exact congrArg (k0_pay79 s z) (by rw [← hf16]; exact congrArg (View.read (Elt F) arg16.view f16) (funext fun a => by fin_cases a <;> rfl))
    isplitl [H12]
    · iexists _; isplitr
      swap; · iexact H12
      ipureintro
      have ho1' : k0_off1 (part9_wp.sl.v61 arg2 c f2) = ![b.val, 0, 0] := ho1
      exact (View.read_writes_cons_put _ _ _ _ _ ho1').trans (by
        rw [View.writes_nil, hf12]
        exact congrArg (fun r => VecWindow.put st.out ![b.val, 0, 0] S1x32x128.size (k0_pay83 x s z r)) (by unfold part9_wp.sl.v77; rw [View.readAt_unit _ _ _ ho1' (inbOut b), hf12]))
    isplitl [H13]
    · iexists _; isplitr
      swap; · iexact H13
      ipureintro
      have ho2' : k0_off2 (part9_wp.sl.v61 arg2 c f2) = ![b.val, 0, 0] := ho2
      exact (View.read_writes_cons_put _ _ _ _ _ ho2').trans (by
        rw [View.writes_nil, hf13]
        exact congrArg (fun r => VecWindow.put st.mu ![b.val, 0, 0] S1x32x2.size (k0_pay85 s z _ r)) (by unfold part9_wp.sl.v97; rw [View.readAt_unit _ _ _ ho2' (inbMu b), hf13]))
    · iexists _; isplitr
      swap; · iexact H15
      ipureintro
      rw [View.read_writes_full]
      exact congrArg (k0_pay84 s z _ _) ((View.readAt_full _ _ _).trans hf15)
  · have h1 : st.single x s z x3 v60 v62 b = st := if_neg hc
    rw [h1]
    have hc' : ∀ lo hi, lo = wordOf v60 → hi = wordOf v62 → ¬ k0_cond2 lo hi = 1#1 := fun _ _ h h' => by rw [h, h']; exact hc
    iintro ⟨⟨⟨%f2, %hf2, H2⟩, ⟨%f3, %hf3, H3⟩⟩, ⟨%f11, %hf11, H11⟩, ⟨%f16, %hf16, H16⟩, ⟨⟨%f12, %hf12, H12⟩, ⟨%f13, %hf13, H13⟩, ⟨%f15, %hf15, H15⟩⟩, Hk⟩
    obtain rfl : v60 = View.readAt (Elt F) arg2.view (Rect.unit (s := S1x2048) ![0, 0] S1x1.size inb_S1x2048_S1x1_0_0).toLoadRect f2 := by
      rw [h60, ← hf2]; exact (View.readAt_unit _ _ _ rfl _).symm
    obtain rfl : v62 = View.readAt (Elt F) arg2.view (Rect.unit (s := S1x2048) ![0, 2047] S1x1.size inb_S1x2048_S1x1_0_2047).toLoadRect f2 := by
      rw [h62, ← hf2]; exact (View.readAt_unit _ _ _ rfl _).symm
    clear h60 h62
    obtain rfl : x2 = View.readAt (Elt F) arg2.view (Rect.unit (s := S1x2048) ![0, 0] S1x2048.size inb_S1x2048_S1x2048_0_0).toLoadRect f2 := hf2.symm.trans (View.readAt_full _ _ _).symm
    obtain rfl : x3 = View.readAt (Elt F) arg3.view (Rect.unit (s := S3x2048) ![0, 0] S3x2048.size inb_S3x2048_S3x2048_0_0).toLoadRect f3 := hf3.symm.trans (View.readAt_full _ _ _).symm
    sl_exec (disch := first | exact hk' _ _ rfl rfl | exact hc' _ _ rfl rfl)
    sl_step
    unfold part9_wp.sl.v69_1 part9_wp.sl.v68_1 part9_wp.sl.v61_1 part9_wp.sl.v63_1 part9_wp.sl.v64_1
    iapply Hk
    isplitl [H2 H3]
    · isplitl [H2]
      · iexists f2; isplitr
        · ipureintro; exact hf2
        iexact H2
      · iexists f3; isplitr
        · ipureintro; exact hf3
        iexact H3
    isplitl [H11]
    · iexists _; isplitr
      swap; · iexact H11
      ipureintro; exact View.read_writes_full _ _ _ _ _
    isplitl [H16]
    · iexists _; isplitr
      swap; · iexact H16
      ipureintro; rw [View.read_writes_full]
      funext _
      exact congrArg (k0_pay79 s z) (by rw [← hf16]; exact congrArg (View.read (Elt F) arg16.view f16) (funext fun a => by fin_cases a <;> rfl))
    isplitl [H12]
    · iexists f12; isplitr
      · ipureintro; exact hf12
      iexact H12
    isplitl [H13]
    · iexists f13; isplitr
      · ipureintro; exact hf13
      iexact H13
    · iexists f15; isplitr
      · ipureintro; exact hf15
      iexact H15

end Cert.KernelIdeal.Gen

end
-- ==== Proof.KernelIdeal.Body3.lean ====
/- The end of the body: the sums are divided, and the numbers and the centroid separations are written. -/
module

public import proofs.«01_k».proof.Proof.KernelIdeal.Body2
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers after the sums are divided by the denominators. -/
def Acc.divided (st : Acc F) : Acc F := ⟨k0_pay50 st.den st.out, k0_pay51 st.den st.mu, st.den⟩

/-- One graph's centroids. -/
abbrev muRow (m : Vec F S8x32x2 .f32) (b : Fin 8) : Vec F S1x32x2 .f32 := VecWindow.window m ![b.val, 0, 0] S1x32x2.size (inbMu b)

/-- The separations of the first seven graphs, added up. -/
def sep7 (m : Vec F S8x32x2 .f32) : F .f32 :=
  k0_pay69 k0_pay61 k0_pay62 (k0_pay67 k0_pay61 k0_pay62 (k0_pay65 k0_pay61 k0_pay62 (k0_pay63 k0_pay61 k0_pay62 (muRow m 0))
    (k0_pay64 k0_pay61 k0_pay62 (muRow m 1)) (muRow m 2)) (k0_pay66 k0_pay61 k0_pay62 (muRow m 3)) (muRow m 4)) (k0_pay68 k0_pay61 k0_pay62 (muRow m 5)) (muRow m 6)

/-- The cells of numbers written by the last point, over the contents `a`. -/
def auxEnd (a : Vec F S8x128 .f32) (d : Vec F S32x8 .f32) (m : Vec F S8x32x2 .f32) (e : Vec F S1x1 .f32) (x10 : Vec F S32x1 .f32) : Vec F S8x128 .f32 :=
  VecWindow.put (VecWindow.put (VecWindow.put (VecWindow.put (VecWindow.put (VecWindow.put (VecWindow.put (a) ![0, 0] S1x1.size (k0_pay11 (k0_pay53 (F := F) (e (idx2 0 0))))) ![0, 1] S1x1.size (k0_pay12 (k0_pay55 (k0_pay54 d)))) ![0, 2] S1x1.size (k0_pay13 (k0_pay57 (k0_pay52 d) x10))) ![0, 3] S1x1.size (k0_pay14 (k0_pay58 (F := F) x10))) ![0, 4] S1x1.size (k0_pay15 (k0_pay59 (F := F) (k0_pay52 d)))) ![0, 5] S1x1.size (k0_pay16 (k0_pay60 (F := F) (k0_pay52 d)))) ![0, 6] S1x1.size (k0_pay17 (F := F) k0_pay61 (sep7 m) (k0_pay70 k0_pay62 (muRow m 7)))

variable (i : grid0.Coords) (arg1 : Memref sig .tc .vmem S2048x128 .f32) (harg1 : arg1.IsWhole) (arg2 : Memref sig .tc .vmem S1x2048 .i32) (harg2 : arg2.IsWhole) (arg3 : Memref sig .tc .vmem S3x2048 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x32 .f32) (harg6 : arg6.IsWhole) (arg7 : Memref sig .tc .vmem S32x1 .f32) (harg7 : arg7.IsWhole) (arg8 : Memref sig .tc .smem S1x1 .f32) (harg8 : arg8.IsWhole) (arg9 : Memref sig .tc .vmem S32x2048 .f32) (harg9 : arg9.IsWhole) (arg10 : Memref sig .tc .vmem S32x1 .f32) (harg10 : arg10.IsWhole) (arg11 : Memref sig .tc .vmem S2048x32 .f32) (harg11 : arg11.IsWhole) (arg12 : Memref sig .tc .vmem S8x32x128 .f32) (harg12 : arg12.IsWhole) (arg13 : Memref sig .tc .vmem S8x32x2 .f32) (harg13 : arg13.IsWhole) (arg14 : Memref sig .tc .vmem S8x128 .f32) (harg14 : arg14.IsWhole) (arg15 : Memref sig .tc .vmem S32x8 .f32) (harg15 : arg15.IsWhole) (arg16 : Memref sig .tc .smem S1x1 .f32) (harg16 : arg16.IsWhole)

set_option maxHeartbeats 4000000 in
theorem part2_wp (c : Dev nD) (E : Set ℕ) (st : Acc F) (e : Vec F S1x1 .f32)
    (Φ : (Σ' (v93 : FVec F S1x32 .f32) (v96 : F .f32), FVec F S1 .f32) → sProp 𝕄) :
    iprop(holds c arg12 arg13 arg15 st ∗ owns (c : Thread nD τ) arg16 fullShare e ∗ ((holds c arg12 arg13 arg15 st.divided ∗ owns (c : Thread nD τ) arg16 fullShare e)
        -∗ Φ ⟨k0_pay52 st.den, k0_pay53 (e (idx2 0 0)), k0_pay54 st.den⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Φ := by
  simp only [k0_part2_eq_skeleton]; unfold k0_part2_skel
  obtain ⟨o, m, d⟩ := st
  unfold holds owns Acc.divided
  iintro ⟨⟨⟨%f12, %hf12, H12⟩, ⟨%f13, %hf13, H13⟩, ⟨%f15, %hf15, H15⟩⟩, ⟨%f16, %hf16, H16⟩, Hk⟩
  subst hf16
  dsimp only at hf12 hf13 hf15 ⊢
  obtain rfl : o = View.readAt (Elt F) arg12.view (Rect.unit (s := S8x32x128) ![0, 0, 0] S8x32x128.size inb_S8x32x128_S8x32x128_0_0_0).toLoadRect f12 := hf12.symm.trans (View.readAt_full _ _ _).symm
  obtain rfl : m = View.readAt (Elt F) arg13.view (Rect.unit (s := S8x32x2) ![0, 0, 0] S8x32x2.size inb_S8x32x2_S8x32x2_0_0_0).toLoadRect f13 := hf13.symm.trans (View.readAt_full _ _ _).symm
  obtain rfl : d = View.readAt (Elt F) arg15.view (Rect.unit (s := S32x8) ![0, 0] S32x8.size inb_S32x8_S32x8_0_0).toLoadRect f15 := hf15.symm.trans (View.readAt_full _ _ _).symm
  sl_exec
  sl_step
  have h16 : part2_wp.sl.r arg16 c f16 = View.read (Elt F) arg16.view f16 (idx2 0 0) := congrArg (View.read (Elt F) arg16.view f16) (funext fun a => by fin_cases a <;> rfl)
  rw [h16]
  iapply Hk
  isplitl [H12 H13 H15]
  · isplitl [H12]
    · iexists _; isplitr
      swap; · iexact H12
      ipureintro; exact View.read_writes_full _ _ _ _ _
    isplitl [H13]
    · iexists _; isplitr
      swap; · iexact H13
      ipureintro; exact View.read_writes_full _ _ _ _ _
    · iexists f15; isplitr
      · ipureintro; exact hf15
      iexact H15
  · iexists f16; isplitr
    · ipureintro; rfl
    iexact H16

/-- The last statements of the body: the numbers and the centroid separations. -/
def endProg (arg10 : Memref sig .tc .vmem S32x1 .f32) (arg13 : Memref sig .tc .vmem S8x32x2 .f32) (arg14 : Memref sig .tc .vmem S8x128 .f32) (v93 : FVec F S1x32 .f32) (v96 : F .f32) (v106 : FVec F S1 .f32) : Prog (TpuEff nD τ sig (Elt F) Λ₀ .tc) PUnit := do
  let w : Vec F S32x1 .f32 ← Prog.lift (.load arg10 (Rect.unit (s := S32x1) ![0, 0] S32x1.size inb_S32x1_S32x1_0_0).toLoadRect (View.loadsAt_vmem h_S32x1))
  let r0 : Vec F S1x32x2 .f32 ← Prog.lift (.load arg13 (Rect.unit (s := S8x32x2) ![0, 0, 0] S1x32x2.size inb_S8x32x2_S1x32x2_0_0_0).toLoadRect (View.loadsAt_vmem h_S1x32x2))
  let r1 : Vec F S1x32x2 .f32 ← Prog.lift (.load arg13 (Rect.unit (s := S8x32x2) ![1, 0, 0] S1x32x2.size inb_S8x32x2_S1x32x2_1_0_0).toLoadRect (View.loadsAt_vmem h_S1x32x2))
  let r2 : Vec F S1x32x2 .f32 ← Prog.lift (.load arg13 (Rect.unit (s := S8x32x2) ![2, 0, 0] S1x32x2.size inb_S8x32x2_S1x32x2_2_0_0).toLoadRect (View.loadsAt_vmem h_S1x32x2))
  let r3 : Vec F S1x32x2 .f32 ← Prog.lift (.load arg13 (Rect.unit (s := S8x32x2) ![3, 0, 0] S1x32x2.size inb_S8x32x2_S1x32x2_3_0_0).toLoadRect (View.loadsAt_vmem h_S1x32x2))
  let r4 : Vec F S1x32x2 .f32 ← Prog.lift (.load arg13 (Rect.unit (s := S8x32x2) ![4, 0, 0] S1x32x2.size inb_S8x32x2_S1x32x2_4_0_0).toLoadRect (View.loadsAt_vmem h_S1x32x2))
  let r5 : Vec F S1x32x2 .f32 ← Prog.lift (.load arg13 (Rect.unit (s := S8x32x2) ![5, 0, 0] S1x32x2.size inb_S8x32x2_S1x32x2_5_0_0).toLoadRect (View.loadsAt_vmem h_S1x32x2))
  let r6 : Vec F S1x32x2 .f32 ← Prog.lift (.load arg13 (Rect.unit (s := S8x32x2) ![6, 0, 0] S1x32x2.size inb_S8x32x2_S1x32x2_6_0_0).toLoadRect (View.loadsAt_vmem h_S1x32x2))
  let r7 : Vec F S1x32x2 .f32 ← Prog.lift (.load arg13 (Rect.unit (s := S8x32x2) ![7, 0, 0] S1x32x2.size inb_S8x32x2_S1x32x2_7_0_0).toLoadRect (View.loadsAt_vmem h_S1x32x2))
  let _c0 : Vec F S1x1 .f32 ← Prog.lift (.load arg14 (Rect.unit (s := S8x128) ![0, 0] S1x1.size inb_S8x128_S1x1_0_0).toLoadRect (View.loadsAt_vmem h_S1x1))
  Prog.lift (.store arg14 (Rect.unit (s := S8x128) ![0, 0] S1x1.size inb_S8x128_S1x1_0_0) (k0_pay11 v96) Finset.univ (View.stores_vmem_bits_univ h_S1x1 rfl) (.inl rfl))
  let _c1 : Vec F S1x1 .f32 ← Prog.lift (.load arg14 (Rect.unit (s := S8x128) ![0, 1] S1x1.size inb_S8x128_S1x1_0_1).toLoadRect (View.loadsAt_vmem h_S1x1))
  Prog.lift (.store arg14 (Rect.unit (s := S8x128) ![0, 1] S1x1.size inb_S8x128_S1x1_0_1) (k0_pay12 (k0_pay55 v106)) Finset.univ (View.stores_vmem_bits_univ h_S1x1 rfl) (.inl rfl))
  let _c2 : Vec F S1x1 .f32 ← Prog.lift (.load arg14 (Rect.unit (s := S8x128) ![0, 2] S1x1.size inb_S8x128_S1x1_0_2).toLoadRect (View.loadsAt_vmem h_S1x1))
  Prog.lift (.store arg14 (Rect.unit (s := S8x128) ![0, 2] S1x1.size inb_S8x128_S1x1_0_2) (k0_pay13 (k0_pay57 v93 w)) Finset.univ (View.stores_vmem_bits_univ h_S1x1 rfl) (.inl rfl))
  let _c3 : Vec F S1x1 .f32 ← Prog.lift (.load arg14 (Rect.unit (s := S8x128) ![0, 3] S1x1.size inb_S8x128_S1x1_0_3).toLoadRect (View.loadsAt_vmem h_S1x1))
  Prog.lift (.store arg14 (Rect.unit (s := S8x128) ![0, 3] S1x1.size inb_S8x128_S1x1_0_3) (k0_pay14 (k0_pay58 w)) Finset.univ (View.stores_vmem_bits_univ h_S1x1 rfl) (.inl rfl))
  let _c4 : Vec F S1x1 .f32 ← Prog.lift (.load arg14 (Rect.unit (s := S8x128) ![0, 4] S1x1.size inb_S8x128_S1x1_0_4).toLoadRect (View.loadsAt_vmem h_S1x1))
  Prog.lift (.store arg14 (Rect.unit (s := S8x128) ![0, 4] S1x1.size inb_S8x128_S1x1_0_4) (k0_pay15 (k0_pay59 v93)) Finset.univ (View.stores_vmem_bits_univ h_S1x1 rfl) (.inl rfl))
  let _c5 : Vec F S1x1 .f32 ← Prog.lift (.load arg14 (Rect.unit (s := S8x128) ![0, 5] S1x1.size inb_S8x128_S1x1_0_5).toLoadRect (View.loadsAt_vmem h_S1x1))
  Prog.lift (.store arg14 (Rect.unit (s := S8x128) ![0, 5] S1x1.size inb_S8x128_S1x1_0_5) (k0_pay16 (k0_pay60 v93)) Finset.univ (View.stores_vmem_bits_univ h_S1x1 rfl) (.inl rfl))
  let _c6 : Vec F S1x1 .f32 ← Prog.lift (.load arg14 (Rect.unit (s := S8x128) ![0, 6] S1x1.size inb_S8x128_S1x1_0_6).toLoadRect (View.loadsAt_vmem h_S1x1))
  Prog.lift (.store arg14 (Rect.unit (s := S8x128) ![0, 6] S1x1.size inb_S8x128_S1x1_0_6) (k0_pay17 k0_pay61 (k0_pay69 k0_pay61 k0_pay62 (k0_pay67 k0_pay61 k0_pay62 (k0_pay65 k0_pay61 k0_pay62 (k0_pay63 k0_pay61 k0_pay62 r0)
    (k0_pay64 k0_pay61 k0_pay62 r1) r2) (k0_pay66 k0_pay61 k0_pay62 r3) r4) (k0_pay68 k0_pay61 k0_pay62 r5) r6) (k0_pay70 k0_pay62 r7)) Finset.univ (View.stores_vmem_bits_univ h_S1x1 rfl) (.inl rfl))
  pure ⟨⟩

set_option maxHeartbeats 8000000 in
theorem end_wp (c : Dev nD) (E : Set ℕ) (a : Vec F S8x128 .f32) (d : Vec F S32x8 .f32) (m : Vec F S8x32x2 .f32) (e : Vec F S1x1 .f32) (x10 : Vec F S32x1 .f32)
    (Φ : PUnit → sProp 𝕄) :
    iprop(owns (c : Thread nD τ) arg10 fullShare x10 ∗ owns (c : Thread nD τ) arg13 fullShare m ∗ owns (c : Thread nD τ) arg14 fullShare a ∗ ((owns (c : Thread nD τ) arg10 fullShare x10 ∗ owns (c : Thread nD τ) arg13 fullShare m ∗ owns (c : Thread nD τ) arg14 fullShare (auxEnd a d m e x10)) -∗ Φ ⟨⟩))
      ⊢ wp frame (wpE (defs₀ (F := F)) Variants.none c none) E (endProg arg10 arg13 arg14 (k0_pay52 d) (k0_pay53 (e (idx2 0 0))) (k0_pay54 d)) Φ := by
  unfold endProg
  unfold owns
  iintro ⟨⟨%f10, %hf10, H10⟩, ⟨%f13, %hf13, H13⟩, ⟨%f14, %hf14, H14⟩, Hk⟩
  obtain rfl : x10 = View.readAt (Elt F) arg10.view (Rect.unit (s := S32x1) ![0, 0] S32x1.size inb_S32x1_S32x1_0_0).toLoadRect f10 := hf10.symm.trans (View.readAt_full _ _ _).symm
  subst hf13
  sl_exec
  sl_step
  iapply Hk
  isplitl [H10]
  · iexists f10; isplitr
    · ipureintro; exact hf10
    iexact H10
  isplitl [H13]
  · iexists f13; isplitr
    · ipureintro; rfl
    iexact H13
  · iexists _; isplitr
    swap; · iexact H14
    ipureintro
    iterate 7 rw [View.read_writes_cons_put _ _ _ _ _ rfl]
    rw [View.writes_nil, hf14]
    rfl

end Cert.KernelIdeal.Gen

end
-- ==== Proof.KernelIdeal.Body4.lean ====
/- One point of the body as a change of the values of the buffers it carries. -/
module

public import proofs.«01_k».proof.Proof.KernelIdeal.Body3
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the ten input windows hold at a point. -/
structure Ins (F : FTy → Type) where
  x1 : Vec F S2048x128 .f32
  x2 : Vec F S1x2048 .i32
  x3 : Vec F S3x2048 .f32
  x4 : Vec F S128x128 .f32
  x5 : Vec F S128x1 .f32
  x6 : Vec F S128x32 .f32
  x7 : Vec F S32x1 .f32
  x8 : Vec F S1x1 .f32
  x9 : Vec F S32x2048 .f32
  x10 : Vec F S32x1 .f32

namespace Ins
variable (X : Ins F)
abbrev lo : BitVec 32 := wordOf (firstOf X.x2)
abbrev hi : BitVec 32 := wordOf (lastOf X.x2)
/-- The graph of the block's first point. -/
abbrev gr : Fin 8 := Fin.ofNat 8 X.lo.toNat
abbrev num : FVec F S32x2048 .f32 := expo X.x1 X.x4 X.x5 X.x6 X.x7 X.x8 X.x9 X.x10
abbrev tot : FVec F S1x2048 .f32 := expoSum X.x1 X.x4 X.x5 X.x6 X.x7 X.x8 X.x9 X.x10
/-- The soft assignments of the block, one column per point. -/
abbrev soft : FVec F S32x2048 .f32 := k0_pay77 X.num X.tot
end Ins

/-- The eight graphs' updates when the block spans several graphs. -/
def Acc.spread (X : Ins F) (st : Acc F) : Acc F :=
  if Scalar.cmpi .ne (Scalar.extui (Scalar.cmpi .ne X.lo X.hi)) 0#32 = 1#1 then
    (((((((st.graph X.x1 X.soft (k0_pay80 X.x2) (k0_pay81 X.x3) X.lo X.hi 0).graph X.x1 X.soft (k0_pay80 X.x2) (k0_pay81 X.x3) X.lo X.hi 1).graph
      X.x1 X.soft (k0_pay80 X.x2) (k0_pay81 X.x3) X.lo X.hi 2).graph X.x1 X.soft (k0_pay80 X.x2) (k0_pay81 X.x3) X.lo X.hi 3).graph
      X.x1 X.soft (k0_pay80 X.x2) (k0_pay81 X.x3) X.lo X.hi 4).graph X.x1 X.soft (k0_pay80 X.x2) (k0_pay81 X.x3) X.lo X.hi 5).graph
      X.x1 X.soft (k0_pay80 X.x2) (k0_pay81 X.x3) X.lo X.hi 6).graph X.x1 X.soft (k0_pay80 X.x2) (k0_pay81 X.x3) X.lo X.hi 7
  else st

/-- The collecting buffers after a point's sums are added. -/
def Acc.pooled (i : grid0.Coords) (X : Ins F) (st : Acc F) : Acc F :=
  ((st.start i).single X.x1 X.num X.tot X.x3 (firstOf X.x2) (lastOf X.x2) X.gr).spread X

/-- The collecting buffers after a point. -/
def Acc.next (i : grid0.Coords) (X : Ins F) (st : Acc F) : Acc F :=
  if k0_cond12 i = 1#1 then (st.pooled i X).divided else st.pooled i X

/-- The entropy cell after a point. -/
def entNext (i : grid0.Coords) (X : Ins F) (e : Vec F S1x1 .f32) : Vec F S1x1 .f32 := fun _ => k0_pay79 X.num X.tot (entStart i e (idx2 0 0))

/-- The cells of numbers after a point. -/
def auxNext (i : grid0.Coords) (X : Ins F) (st : Acc F) (e : Vec F S1x1 .f32) (a : Vec F S8x128 .f32) : Vec F S8x128 .f32 :=
  if k0_cond12 i = 1#1 then auxEnd (auxStart i a) (st.pooled i X).den (st.pooled i X).divided.mu (entNext i X e) X.x10 else auxStart i a

variable (i : grid0.Coords) (arg1 : Memref sig .tc .vmem S2048x128 .f32) (harg1 : arg1.IsWhole) (arg2 : Memref sig .tc .vmem S1x2048 .i32) (harg2 : arg2.IsWhole) (arg3 : Memref sig .tc .vmem S3x2048 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x32 .f32) (harg6 : arg6.IsWhole) (arg7 : Memref sig .tc .vmem S32x1 .f32) (harg7 : arg7.IsWhole) (arg8 : Memref sig .tc .smem S1x1 .f32) (harg8 : arg8.IsWhole) (arg9 : Memref sig .tc .vmem S32x2048 .f32) (harg9 : arg9.IsWhole) (arg10 : Memref sig .tc .vmem S32x1 .f32) (harg10 : arg10.IsWhole) (arg11 : Memref sig .tc .vmem S2048x32 .f32) (harg11 : arg11.IsWhole) (arg12 : Memref sig .tc .vmem S8x32x128 .f32) (harg12 : arg12.IsWhole) (arg13 : Memref sig .tc .vmem S8x32x2 .f32) (harg13 : arg13.IsWhole) (arg14 : Memref sig .tc .vmem S8x128 .f32) (harg14 : arg14.IsWhole) (arg15 : Memref sig .tc .vmem S32x8 .f32) (harg15 : arg15.IsWhole) (arg16 : Memref sig .tc .smem S1x1 .f32) (harg16 : arg16.IsWhole)

/-- The end of the body: nothing, but at the last point. -/
def finish : Prog (TpuEff nD τ sig (Elt F) Λ₀ .tc) PUnit :=
  if h : k0_cond12 i = 1#1 then k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun r => endProg arg10 arg13 arg14 r.1 r.2.1 r.2.2 else pure ⟨⟩

/-- The body after the block of one graph is pooled. -/
def rootTail (x : FVec F S2048x128 .f32) (s : FVec F S32x2048 .f32) (g : IVec S1x2048 32) (q : FVec F S3x2048 .f32) (lo hi : BitVec 32) : Prog (TpuEff nD τ sig (Elt F) Λ₀ .tc) PUnit :=
  if Scalar.cmpi .ne (Scalar.extui (Scalar.cmpi .ne lo hi)) 0#32 = 1#1 then
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x s g q lo hi (iota .tc S1x8 32 [1] iota_S1x8_d1_w32) >>= fun w =>
      if Scalar.cmpi .ne w 0#32 = 1#1 then
        updRows arg12 arg13 arg15 ![6, 0, 0] (inbOut 6) ![6, 0, 0] (inbMu 6) (rowOut x (graphPart 6#32 s g))
          (rowMu (sums3 (graphPart 6#32 s g) q)) (colDen 6#32 (sums3 (graphPart 6#32 s g) q))
          (graphBlk arg12 arg13 arg15 7 lo hi x s g q (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16))
      else graphBlk arg12 arg13 arg15 7 lo hi x s g q (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
  else finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16

theorem finish_wp (c : Dev nD) (E : Set ℕ) (st : Acc F) (e : Vec F S1x1 .f32) (a : Vec F S8x128 .f32) (x10 : Vec F S32x1 .f32) (K : PUnit → sProp 𝕄) :
    iprop(holds c arg12 arg13 arg15 st ∗ owns (c : Thread nD τ) arg10 fullShare x10 ∗ owns (c : Thread nD τ) arg14 fullShare a ∗ owns (c : Thread nD τ) arg16 fullShare e
        ∗ ((holds c arg12 arg13 arg15 (if k0_cond12 i = 1#1 then st.divided else st) ∗ owns (c : Thread nD τ) arg10 fullShare x10
            ∗ owns (c : Thread nD τ) arg14 fullShare (if k0_cond12 i = 1#1 then auxEnd a st.den st.divided.mu e x10 else a) ∗ owns (c : Thread nD τ) arg16 fullShare e) -∗ K ⟨⟩))
      ⊢ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold finish
  by_cases hc : k0_cond12 i = 1#1
  · rw [dif_pos hc, if_pos hc, if_pos hc, wp_bind]
    iintro ⟨H, H10, H14, H16, Hk⟩
    iapply (part2_wp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E st e)
    isplitl [H]; · iexact H
    isplitl [H16]; · iexact H16
    unfold holds
    iintro ⟨⟨H12, H13, H15⟩, H16⟩
    iapply (end_wp arg10 arg13 arg14 c E a st.den st.divided.mu e x10)
    isplitl [H10]; · iexact H10
    isplitl [H13]; · iexact H13
    isplitl [H14]; · iexact H14
    iintro ⟨H10, H13, H14⟩
    iapply Hk
    isplitl [H12 H13 H15]
    · isplitl [H12]; · iexact H12
      isplitl [H13]; · iexact H13
      iexact H15
    isplitl [H10]; · iexact H10
    isplitl [H14]; · iexact H14
    iexact H16
  · rw [dif_neg hc, if_neg hc, if_neg hc, wp_pure]
    iintro ⟨H, H10, H14, H16, Hk⟩
    imodintro
    iapply Hk
    isplitl [H]; · iexact H
    isplitl [H10]; · iexact H10
    isplitl [H14]; · iexact H14
    iexact H16

theorem rootTail_wp (c : Dev nD) (E : Set ℕ) (X : Ins F) (st : Acc F) (K : PUnit → sProp 𝕄) :
    iprop(holds c arg12 arg13 arg15 st ∗ (holds c arg12 arg13 arg15 (st.spread X) -∗ wp frame (wpE (defs₀ (F := F)) Variants.none c none) E (finish i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K))
      ⊢ wp frame (wpE (defs₀ (F := F)) Variants.none c none) E (rootTail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X.x1 X.soft (k0_pay80 X.x2) (k0_pay81 X.x3) X.lo X.hi) K := by
  unfold rootTail Acc.spread
  by_cases hc : Scalar.cmpi .ne (Scalar.extui (Scalar.cmpi .ne X.lo X.hi)) 0#32 = 1#1
  · have h6 : ∀ K : Prog (TpuEff nD τ sig (Elt F) Λ₀ .tc) PUnit, (if Scalar.cmpi .ne (graphWord 6 X.lo X.hi) 0#32 = 1#1 then
        updRows arg12 arg13 arg15 ![6, 0, 0] (inbOut 6) ![6, 0, 0] (inbMu 6) (rowOut X.x1 (graphPart 6#32 X.soft (k0_pay80 X.x2)))
          (rowMu (sums3 (graphPart 6#32 X.soft (k0_pay80 X.x2)) (k0_pay81 X.x3))) (colDen 6#32 (sums3 (graphPart 6#32 X.soft (k0_pay80 X.x2)) (k0_pay81 X.x3))) K else K)
        = graphBlk arg12 arg13 arg15 6 X.lo X.hi X.x1 X.soft (k0_pay80 X.x2) (k0_pay81 X.x3) K := fun K => rfl
    rw [if_pos hc, if_pos hc, wp_bind, part1_eq]
    iintro ⟨H, Hk⟩
    iapply (graphBlk_wp c E arg12 arg13 arg15 0 X.lo X.hi X.x1 X.soft (k0_pay80 X.x2) (k0_pay81 X.x3))
    isplitl [H]; · iexact H
    iintro H
    iapply (graphBlk_wp c E arg12 arg13 arg15 1 X.lo X.hi X.x1 X.soft (k0_pay80 X.x2) (k0_pay81 X.x3))
    isplitl [H]; · iexact H
    iintro H
    iapply (graphBlk_wp c E arg12 arg13 arg15 2 X.lo X.hi X.x1 X.soft (k0_pay80 X.x2) (k0_pay81 X.x3))
    isplitl [H]; · iexact H
    iintro H
    iapply (graphBlk_wp c E arg12 arg13 arg15 3 X.lo X.hi X.x1 X.soft (k0_pay80 X.x2) (k0_pay81 X.x3))
    isplitl [H]; · iexact H
    iintro H
    iapply (graphBlk_wp c E arg12 arg13 arg15 4 X.lo X.hi X.x1 X.soft (k0_pay80 X.x2) (k0_pay81 X.x3))
    isplitl [H]; · iexact H
    iintro H
    iapply (graphBlk_wp c E arg12 arg13 arg15 5 X.lo X.hi X.x1 X.soft (k0_pay80 X.x2) (k0_pay81 X.x3))
    isplitl [H]; · iexact H
    iintro H
    rw [wp_pure, h6]
    imodintro
    iapply (graphBlk_wp c E arg12 arg13 arg15 6 X.lo X.hi X.x1 X.soft (k0_pay80 X.x2) (k0_pay81 X.x3))
    isplitl [H]; · iexact H
    iintro H
    iapply (graphBlk_wp c E arg12 arg13 arg15 7 X.lo X.hi X.x1 X.soft (k0_pay80 X.x2) (k0_pay81 X.x3))
    isplitl [H]; · iexact H
    iexact Hk
  · rw [if_neg hc, if_neg hc]
    iintro ⟨H, Hk⟩
    iapply Hk
    iexact H

set_option maxHeartbeats 4000000 in
/-- One point of the body, from any contents of the buffers it carries. -/
theorem body_wp (c : Dev nD) (E : Set ℕ) (X : Ins F) (x11 : Vec F S2048x32 .f32) (st : Acc F) (e : Vec F S1x1 .f32) (a : Vec F S8x128 .f32)
    (hchk : k0_chk1 X.lo X.hi) (ho1 : k0_off1 X.lo = ![X.gr.val, 0, 0]) (ho2 : k0_off2 X.lo = ![X.gr.val, 0, 0]) (K : PUnit → sProp 𝕄) :
    iprop((owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10) ∗ owns (c : Thread nD τ) arg11 fullShare x11 ∗ holds c arg12 arg13 arg15 st ∗ owns (c : Thread nD τ) arg14 fullShare a ∗ owns (c : Thread nD τ) arg16 fullShare e
        ∗ (((owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10) ∗ owns (c : Thread nD τ) arg11 fullShare (k0_pay78 X.num X.tot) ∗ holds c arg12 arg13 arg15 (st.next i X) ∗ owns (c : Thread nD τ) arg14 fullShare (auxNext i X st e a) ∗ owns (c : Thread nD τ) arg16 fullShare (entNext i X e)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  rw [wp_bind]
  iintro ⟨⟨H1, H2, H3, H4, H5, H6, H7, H8, H9, H10⟩, H11, H, H14, H16, Hk⟩
  iapply (part8_wp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E X.x1 X.x4 X.x5 X.x6 X.x7 X.x8 X.x9 X.x10 st a e)
  isplitl [H1 H4 H5 H6 H7 H8 H9 H10]
  · isplitl [H1]; · iexact H1
    isplitl [H4]; · iexact H4
    isplitl [H5]; · iexact H5
    isplitl [H6]; · iexact H6
    isplitl [H7]; · iexact H7
    isplitl [H8]; · iexact H8
    isplitl [H9]; · iexact H9
    iexact H10
  isplitl [H]; · iexact H
  isplitl [H14]; · iexact H14
  isplitl [H16]; · iexact H16
  iintro ⟨⟨H1, H4, H5, H6, H7, H8, H9, H10⟩, H, H14, H16⟩
  dsimp only
  rw [wp_bind]
  iapply (part9_wp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E X.x1 X.num X.tot (BitVec.ofNat 32 (i 0).val) X.x2 X.x3 x11 (entStart i e) (st.start i) (firstOf X.x2) (lastOf X.x2) rfl rfl X.gr hchk ho1 ho2)
  isplitl [H2 H3]
  · isplitl [H2]; · iexact H2
    iexact H3
  isplitl [H11]; · iexact H11
  isplitl [H16]; · iexact H16
  isplitl [H]; · iexact H
  iintro ⟨⟨H2, H3⟩, H11, H16, H⟩
  iapply (rootTail_wp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E X ((st.start i).single X.x1 X.num X.tot X.x3 (firstOf X.x2) (lastOf X.x2) X.gr))
  isplitl [H]; · iexact H
  iintro H
  iapply (finish_wp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c E (st.pooled i X) (entNext i X e) (auxStart i a) X.x10)
  isplitl [H]; · iexact H
  isplitl [H10]; · iexact H10
  isplitl [H14]; · iexact H14
  isplitl [H16]; · iexact H16
  iintro ⟨H, H10, H14, H16⟩
  iapply Hk
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H]; · iexact H
  isplitl [H14]; · iexact H14
  iexact H16

end Cert.KernelIdeal.Gen

end
-- ==== Proof.KernelIdeal.Run.lean ====
/- The kernel's run: what the points leave, and the frame. -/
module

public import proofs.«01_k».proof.Proof.KernelIdeal.Body4
public import Idealize.ShloMosaic.Lib.Pipeline.FrameBody
public import Idealize.ShloMosaic.Lib.Pipeline.FrameSuffix
public import Idealize.ShloMosaic.Lib.Ring
public import Idealize.ShloMosaic.Lib.WordCmp
public import Idealize.ShloMosaic.Lib.Pipeline.TableIdle
public import Idealize.ShloMosaic.Lib.Claim
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## What the points leave -/

/-- What a point finds in the buffers the points share. -/
structure Carry (F : FTy → Type) where
  acc : Acc F
  aux : Vec F S8x128 .f32
  ent : Vec F S1x1 .f32

def Carry.next (i : grid0.Coords) (X : Ins F) (C : Carry F) : Carry F := ⟨C.acc.next i X, auxNext i X C.acc C.ent C.aux, entNext i X C.ent⟩

/-- The first point's result does not depend on what it finds. -/
theorem Carry.next_first (i : grid0.Coords) (X : Ins F) (h : k0_cond1 i = 1#1) (C C' : Carry F) : C.next i X = C'.next i X := by
  have e : entNext i X C.ent = entNext i X C'.ent := by unfold entNext entStart; simp only [if_pos h]
  simp only [Carry.next, Acc.next, Acc.pooled, auxNext, Acc.start, auxStart, if_pos h, e]

/-- The ten input blocks of point `t`. -/
abbrev ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t⟩

/-- What the shared buffers hold before point `n`. -/
def carried (c : Dev nD) : ℕ → Carry F
  | 0 => ⟨⟨k0_pay71, k0_pay72, k0_pay73⟩, k0_pay74, fun _ => Scalar.ofBits .f32 0x00000000#32⟩
  | n + 1 => if h : n < cfg0.N then (carried c n).next (grid0.coords ⟨n, h⟩) (ins m c ⟨n, h⟩) else carried c n

theorem carried_succ (c : Dev nD) (t : Fin cfg0.N) : carried m c (t.val + 1) = (carried m c t.val).next (grid0.coords t) (ins m c t) := by
  rw [carried, dif_pos t.isLt]

/-- Every block starts in one of the eight graphs. -/
def InRange : Prop := ∀ (c : Dev nD) (t : Fin cfg0.N), (ins m c t).lo.toNat < 8

theorem first_iff (t : Fin cfg0.N) : k0_cond1 (grid0.coords t) = 1#1 ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond1, e0]
    word_cmp
   : ∀ t : Fin grid0.N, k0_cond1 (grid0.coords t) = 1#1 ↔ t.val % 4 = 0) t

theorem last_iff (t : Fin cfg0.N) : k0_cond12 (grid0.coords t) = 1#1 ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [k0_cond12, e0]
    word_cmp
   : ∀ t : Fin grid0.N, k0_cond12 (grid0.coords t) = 1#1 ↔ t.val % 4 = 3) t

theorem graph_facts (w u : BitVec 32) (h : w.toNat < 8) :
    k0_chk1 w u ∧ k0_off1 w = ![(Fin.ofNat 8 w.toNat : Fin 8).val, 0, 0] ∧ k0_off2 w = ![(Fin.ofNat 8 w.toNat : Fin 8).val, 0, 0] := by
  have hv : (Fin.ofNat 8 w.toNat : Fin 8).val = w.toNat := Nat.mod_eq_of_lt h
  have h1 : k0_off1 w = ![w.toNat, 0, 0] := by simp [k0_off1, Scalar.indexCast]
  have h2 : k0_off2 w = ![w.toNat, 0, 0] := by simp [k0_off2, Scalar.indexCast]
  rw [hv]
  refine ⟨⟨fun _ a => ?_, fun _ a => ?_⟩, h1, h2⟩
  · rw [h1]; fin_cases a <;> simp <;> omega
  · rw [h2]; fin_cases a <;> simp <;> omega

/-! ## The proof data -/

abbrev scrDen : Memref sig .tc .vmem S32x8 .f32 := Memref.whole cc0_scratch0
abbrev scrEnt : Memref sig .tc .smem S1x1 .f32 := Memref.whole cc0_scratch1

theorem PhiA0_eq (c : Dev nD) :
    (Pipeline.ΦA spec0 c : sProp 𝕄)
      = iprop(iprop((∃ d, owns (c : Thread nD τ) scrDen fullShare d) ∗ (∃ d, owns (c : Thread nD τ) scrEnt fullShare d)) ∗ (∃ r, prngReg c r)) := by
  unfold Pipeline.ΦA; rw [scopedRest0_eq]; simp only [scrDen, scrEnt, owns_whole]; try rfl

/-- The two scratch buffers between the points. -/
def PhiS (c : Dev nD) : ℕ → sProp 𝕄
  | 0 => Pipeline.ΦA spec0 c
  | n + 1 => iprop(iprop(owns (c : Thread nD τ) scrDen fullShare (carried m c (n + 1)).acc.den ∗ owns (c : Thread nD τ) scrEnt fullShare (carried m c (n + 1)).ent) ∗ (∃ r, prngReg c r))

theorem PhiS_zero (c : Dev nD) (n : ℕ) (hz : n = 0) : PhiS m c n = Pipeline.ΦA spec0 c := by subst hz; rfl

theorem PhiS_pos (c : Dev nD) (n : ℕ) (hz : n ≠ 0) :
    PhiS m c n = iprop(iprop(owns (c : Thread nD τ) scrDen fullShare (carried m c n).acc.den ∗ owns (c : Thread nD τ) scrEnt fullShare (carried m c n).ent) ∗ (∃ r, prngReg c r)) := by
  cases n with
  | zero => exact absurd rfl hz
  | succ n => rfl

/-- The arrays as the region finds them, and what the points leave in the buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay78 (ins m c t).num (ins m c t).tot
    | ⟨11, _⟩ => (carried m c (t.val + 1)).acc.out
    | ⟨12, _⟩ => (carried m c (t.val + 1)).acc.mu
    | ⟨13, _⟩ => (carried m c (t.val + 1)).aux
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = k0_pay78 (ins m c t).num (ins m c t).tot := by dsimp only [dats]
theorem after0_11 (c : Dev nD) (t : Fin cfg0.N) : (dats m 0 c).after 11 t = (carried m c (t.val + 1)).acc.out := by dsimp only [dats]
theorem after0_12 (c : Dev nD) (t : Fin cfg0.N) : (dats m 0 c).after 12 t = (carried m c (t.val + 1)).acc.mu := by dsimp only [dats]
theorem after0_13 (c : Dev nD) (t : Fin cfg0.N) : (dats m 0 c).after 13 t = (carried m c (t.val + 1)).aux := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d

/-- At a later point the buffer of window 11 holds what the point before left. -/
theorem before0_11_later (c : Dev nD) (t : Fin cfg0.N) (h0 : t.val ≠ 0) (d) : (dats m 0 c).before 11 t d = (carried m c t.val).acc.out := by
  have hN : t.val < 4 := lt_of_lt_of_eq t.isLt (show cfg0.N = 4 from N_0)
  rw [Dat.before_out_kept _ 11 rfl t h0 (Bool.eq_false_iff.mpr fun h => by have := (flush0_11 _).mp h; dsimp only at this; omega)
    (fun _ => rfl) (fun _ _ => rfl)]
  dsimp only [dats]
  rw [Nat.sub_add_cancel (Nat.pos_of_ne_zero h0)]
/-- At a later point the buffer of window 12 holds what the point before left. -/
theorem before0_12_later (c : Dev nD) (t : Fin cfg0.N) (h0 : t.val ≠ 0) (d) : (dats m 0 c).before 12 t d = (carried m c t.val).acc.mu := by
  have hN : t.val < 4 := lt_of_lt_of_eq t.isLt (show cfg0.N = 4 from N_0)
  rw [Dat.before_out_kept _ 12 rfl t h0 (Bool.eq_false_iff.mpr fun h => by have := (flush0_12 _).mp h; dsimp only at this; omega)
    (fun _ => rfl) (fun _ _ => rfl)]
  dsimp only [dats]
  rw [Nat.sub_add_cancel (Nat.pos_of_ne_zero h0)]

theorem idle13_iff (t : Fin cfg0.N) : cfg0.idle 13 (cfg0.grid.coords t) = true ↔ ¬ t.val % 4 = 0 ∧ ¬ t.val % 4 = 3 := by
  rw [← first_iff, ← last_iff]
  show (!(k0_cond1 (grid0.coords t) == 1#1) && !(k0_cond12 (grid0.coords t) == 1#1)) = true ↔ _
  simp

theorem fresh13 (n : ℕ) (h0 : n ≠ 0) (hn : n < 4) : cfg0.fresh 13 n = false := by
  induction n with
  | zero => exact absurd rfl h0
  | succ n ih =>
    have hN : n < cfg0.N := by have : cfg0.N = 4 := N_0; omega
    have hf : (cfg0.win 13).flush ⟨n, hN⟩ = false := Bool.eq_false_iff.mpr fun h => by have := (flush0_13 _).mp h; dsimp only at this; omega
    rw [Pipeline.Cfg.fresh_succ cfg0 13 n hN, hf, Bool.false_or]
    by_cases hz : n = 0
    · have : cfg0.idle 13 (cfg0.grid.coords ⟨n, hN⟩) = false := Bool.eq_false_iff.mpr fun h => by have := (idle13_iff _).mp h; dsimp only at this; omega
      rw [this, Bool.false_and]
    · rw [ih hz (by omega), Bool.and_false]

/-- A point that is neither the first nor the last leaves the cells of numbers alone. -/
theorem aux_kept (c : Dev nD) (t : Fin cfg0.N) (h0 : ¬ t.val % 4 = 0) (h3 : ¬ t.val % 4 = 3) : (carried m c (t.val + 1)).aux = (carried m c t.val).aux := by
  rw [carried_succ, Carry.next, auxNext, auxStart, if_neg (fun h => h3 ((last_iff t).mp h)), if_neg (fun h => h0 ((first_iff t).mp h))]

/-- At a later point the buffer of window 13 holds what the point before left. -/
theorem before0_13_later (c : Dev nD) (t : Fin cfg0.N) (h0 : t.val ≠ 0) (d) : (dats m 0 c).before 13 t d = (carried m c t.val).aux := by
  have hN : t.val < 4 := lt_of_lt_of_eq t.isLt (show cfg0.N = 4 from N_0)
  rw [Dat.before_out_traj _ 13 rfl (fun _ _ => rfl) (fun t ht hi _ => ?_) t.val t rfl d, fresh13 t.val h0 hN, if_neg Bool.false_ne_true, after0_13]
  · dsimp only
    rw [Nat.sub_add_cancel (Nat.pos_of_ne_zero h0)]
  · rw [after0_13, after0_13]
    dsimp only
    rw [Nat.sub_add_cancel (Nat.pos_of_ne_zero ht)]
    exact aux_kept m c t ((idle13_iff t).mp hi).1 ((idle13_iff t).mp hi).2

/-- What is asked of window 13 after a point. -/
def left13 (c : Dev nD) (t : Fin cfg0.N) : sProp 𝕄 :=
  match cfg0.idle 13 (cfg0.grid.coords t) with
  | true =>
    match (cfg0.win 13).flush t with
    | false => iprop(∃ d, owns (c : Thread nD τ) (st0_13 t) fullShare ((dats m 0 c).before 13 t d))
    | true => owns (c : Thread nD τ) (st0_13 t) fullShare ((dats m 0 c).after 13 t)
  | false => owns (c : Thread nD τ) (st0_13 t) fullShare ((dats m 0 c).after 13 t)

theorem left13_of (c : Dev nD) (t : Fin cfg0.N) : owns (c : Thread nD τ) (st0_13 t) fullShare ((carried m c (t.val + 1)).aux) ⊢ left13 m c t := by
  unfold left13
  cases hi : cfg0.idle 13 (cfg0.grid.coords t) with
  | false => rw [after0_13]
  | true =>
    have h := (idle13_iff t).mp hi
    have hf : (cfg0.win 13).flush t = false := Bool.eq_false_iff.mpr fun hh => h.2 ((flush0_13 t).mp hh)
    rw [hf]
    rw [aux_kept m c t h.1 h.2, ← before0_13_later m c t (by omega) (carried m c t.val).aux]
    iintro H
    iexists _
    iexact H

/-! ## The body at a point -/

/-- The body at a point takes the shared buffers from one content to the next. -/
theorem body_at (c : Dev nD) (t : Fin cfg0.N) (hr : InRange m) (C : Carry F) (x11 : Vec F S2048x32 .f32) (K : sProp 𝕄) :
    iprop((owns (c : Thread nD τ) (st0_0 t) fullShare (ins m c t).x1 ∗ owns (c : Thread nD τ) (st0_1 t) fullShare (ins m c t).x2 ∗ owns (c : Thread nD τ) (st0_2 t) fullShare (ins m c t).x3 ∗ owns (c : Thread nD τ) (st0_3 t) fullShare (ins m c t).x4 ∗ owns (c : Thread nD τ) (st0_4 t) fullShare (ins m c t).x5 ∗ owns (c : Thread nD τ) (st0_5 t) fullShare (ins m c t).x6 ∗ owns (c : Thread nD τ) (st0_6 t) fullShare (ins m c t).x7 ∗ owns (c : Thread nD τ) (st0_7 t) fullShare (ins m c t).x8 ∗ owns (c : Thread nD τ) (st0_8 t) fullShare (ins m c t).x9 ∗ owns (c : Thread nD τ) (st0_9 t) fullShare (ins m c t).x10) ∗ owns (c : Thread nD τ) (st0_10 t) fullShare x11 ∗ owns (c : Thread nD τ) (st0_11 t) fullShare C.acc.out ∗ owns (c : Thread nD τ) (st0_12 t) fullShare C.acc.mu ∗ owns (c : Thread nD τ) (st0_13 t) fullShare C.aux ∗ (owns (c : Thread nD τ) scrDen fullShare C.acc.den ∗ owns (c : Thread nD τ) scrEnt fullShare C.ent)
        ∗ (((owns (c : Thread nD τ) (st0_0 t) fullShare (ins m c t).x1 ∗ owns (c : Thread nD τ) (st0_1 t) fullShare (ins m c t).x2 ∗ owns (c : Thread nD τ) (st0_2 t) fullShare (ins m c t).x3 ∗ owns (c : Thread nD τ) (st0_3 t) fullShare (ins m c t).x4 ∗ owns (c : Thread nD τ) (st0_4 t) fullShare (ins m c t).x5 ∗ owns (c : Thread nD τ) (st0_5 t) fullShare (ins m c t).x6 ∗ owns (c : Thread nD τ) (st0_6 t) fullShare (ins m c t).x7 ∗ owns (c : Thread nD τ) (st0_7 t) fullShare (ins m c t).x8 ∗ owns (c : Thread nD τ) (st0_8 t) fullShare (ins m c t).x9 ∗ owns (c : Thread nD τ) (st0_9 t) fullShare (ins m c t).x10) ∗ owns (c : Thread nD τ) (st0_10 t) fullShare (k0_pay78 (ins m c t).num (ins m c t).tot) ∗ owns (c : Thread nD τ) (st0_11 t) fullShare (C.next (grid0.coords t) (ins m c t)).acc.out ∗ owns (c : Thread nD τ) (st0_12 t) fullShare (C.next (grid0.coords t) (ins m c t)).acc.mu ∗ owns (c : Thread nD τ) (st0_13 t) fullShare (C.next (grid0.coords t) (ins m c t)).aux
            ∗ (owns (c : Thread nD τ) scrDen fullShare (C.next (grid0.coords t) (ins m c t)).acc.den ∗ owns (c : Thread nD τ) scrEnt fullShare (C.next (grid0.coords t) (ins m c t)).ent)) -∗ K))
      ⊢ wp frame (wpE (defs₀ (F := F)) Variants.none c none) Set.univ (bodyAt0 t) (fun _ => K) := by
  have hg := graph_facts (ins m c t).lo (ins m c t).hi (hr c t)
  iintro ⟨Hi, H10, H11, H12, H13, ⟨HS0, HS1⟩, Hk⟩
  iapply (body_wp (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) c Set.univ (ins m c t) x11 C.acc C.ent C.aux hg.1 hg.2.1 hg.2.2)
  unfold holds
  isplitl [Hi]; · iexact Hi
  isplitl [H10]; · iexact H10
  isplitl [H11 H12 HS0]
  · isplitl [H11]; · iexact H11
    isplitl [H12]; · iexact H12
    iexact HS0
  isplitl [H13]; · iexact H13
  isplitl [HS1]; · iexact HS1
  iintro ⟨Hi, H10, ⟨H11, H12, HS0⟩, H13, HS1⟩
  iapply Hk
  isplitl [Hi]; · iexact Hi
  isplitl [H10]; · iexact H10
  isplitl [H11]; · iexact H11
  isplitl [H12]; · iexact H12
  isplitl [H13]; · iexact H13
  isplitl [HS0]; · iexact HS0
  iexact HS1

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ left13 m c t)

set_option maxHeartbeats 4000000 in
theorem sound_body (hr : InRange m) (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) from rfl, PhiS_pos m c (t.val + 1) (Nat.succ_ne_zero _),
    show (dats m 0 c).Φ t.castSucc = PhiS m c t.val from rfl]
  have hN : t.val < 4 := lt_of_lt_of_eq t.isLt (show cfg0.N = 4 from N_0)
  by_cases hz : t.val = 0
  · rw [PhiS_zero m c _ hz, PhiA0_eq]
    iintro ⟨⟨⟨⟨%a0, HS0⟩, ⟨%a1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    have hC : carried m c (t.val + 1) = Carry.next (grid0.coords t) (ins m c t) ⟨⟨(dats m 0 c).before 11 t d11, (dats m 0 c).before 12 t d12, a0⟩, (dats m 0 c).before 13 t d13, a1⟩ :=
      (carried_succ m c t).trans (Carry.next_first _ _ ((first_iff t).mpr (by omega)) _ _)
    rw [hC]
    iapply (body_at m c t hr ⟨⟨(dats m 0 c).before 11 t d11, (dats m 0 c).before 12 t d12, a0⟩, (dats m 0 c).before 13 t d13, a1⟩)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [H13]; · iexact H13
    isplitl [HS0 HS1]
    · isplitl [HS0]; · iexact HS0
      iexact HS1
    iintro ⟨⟨H0, H1, H2, H3, H4, H5, H6, H7, H8, H9⟩, H10, H11, H12, H13, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply (left13_of m c t)
    rw [hC]
    iexact H13
  · rw [PhiS_pos m c _ hz]
    simp only [before0_11_later m c t hz, before0_12_later m c t hz, before0_13_later m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [carried_succ m c t]
    iapply (body_at m c t hr (carried m c t.val))
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [H13]; · iexact H13
    isplitl [HS0 HS1]
    · isplitl [HS0]; · iexact HS0
      iexact HS1
    iintro ⟨⟨H0, H1, H2, H3, H4, H5, H6, H7, H8, H9⟩, H10, H11, H12, H13, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iapply (left13_of m c t)
    rw [carried_succ m c t]
    iexact H13

/-- The row of the certificate's call table is the body at the point. -/
theorem defs₀_row (t : Fin cfg0.N) : defs₀ (F := F) .tc cfg0.body (cfg0.bodyArgs t (cfg0.slots t)) = bodyAt0 t := by
  unfold defs₀; rw [Defs.onTc_tc]

theorem body_obligation (hr : InRange m) (c : Dev nD) : BodyObligation (dats m 0 c) (defs₀ (F := F)) Variants.none () Set.univ := fun t => by
  rw [bigSep_W0, bigSep_W0, defs₀_row]
  exact triple_restated (sound_body m hr c t) rfl .rfl fun _ => .rfl

theorem hin (c : Dev nD) : Pipeline.ΦA spec0 c ⊢ (dats m 0 c).Φ 0 := by
  rw [show (dats m 0 c).Φ 0 = PhiS m c 0 from rfl, PhiS]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 4 := N_0; omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
set_option maxHeartbeats 1600000 in
/-- Every execution ends with the arrays at what the points left and every counter at zero. -/
theorem run_quiescent (hr : InRange m) : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m hr c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main (hr : InRange m) : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ hr)

/-- The arguments end as launched and every counter is back at zero. -/
theorem frame_run (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ hr)) ((θ_run defs _ _).mono (fun _ h => h.2) (run_quiescent m ρ hr))

end Cert.KernelIdeal.Gen

end
-- ==== Proof.KernelIdeal.Range.lean ====
/- Graph numbers in range put every block's first graph in range. -/
module

public import proofs.«01_k».proof.Proof.KernelIdeal.Run
public import Idealize.ShloMosaic.Lib.Pipeline.FrameBody
public import Idealize.ShloMosaic.Lib.Pipeline.FrameSuffix
public import Idealize.ShloMosaic.Lib.Ring
public import Idealize.ShloMosaic.Lib.WordCmp
public import Idealize.ShloMosaic.Lib.Pipeline.TableIdle
public import Idealize.ShloMosaic.Lib.Claim
public import Idealize.ShloMosaic.Lib.VecWindow
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

set_option maxHeartbeats 1000000 in
theorem V_main_v0 (c : Dev nD) : V m c main_v0 = shapeCast S1x8192 (m ((c : Thread nD τ).loc main_arg1)) shapeCasts_S8192_S1x8192 := by
  show StableHlo.after (List.flatten [hostOps0]) (fun b => m (c, b)) (Proc.devRef .tc main_v0) = _
  simp only [hostOps0, List.flatten_cons, List.flatten_nil, List.append_nil]
  after_results
  rfl

/-- With every graph number below eight, every block starts in one of the eight graphs. -/
theorem inRange_of (h : ∀ (c : Dev nD) (j : S8192.Idx), (m ((c : Thread nD τ).loc main_arg1) j : BitVec 32).toNat < 8) : InRange m := by
  intro c t
  have rd : ∀ i, (iblk m c 1 t i : BitVec 32).toNat < 8 := fun i => by
    unfold iblk; rw [View.read_apply, cast_eq]
    show (V m c main_v0 _ : BitVec 32).toNat < 8
    rw [V_main_v0]
    exact h c _
  exact rd _

end Cert.KernelIdeal.Gen

end
-- ==== Proof.Frames.lean ====
/- The three frames: every program ends, leaves its arguments alone and every counter at zero. -/
module

public import proofs.«01_k».proof.Defs
public import proofs.«01_k».proof.Proof.Pre
public import proofs.«01_k».proof.Proof.Kernel.Range
public import proofs.«01_k».proof.Proof.KernelIdeal.Range
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_graphs_in_range.Facts := Cert.Pre_graphs_in_range.Gen.facts

theorem frame_kernel : Cert.quiescent_Kernel :=
  fun m g h => Cert.Kernel.Gen.frame_run m g (Cert.Kernel.Gen.inRange_of m fun c j => Cert.Pre.in_range (h c) j)

theorem frame_kernelIdeal : Cert.quiescent_KernelIdeal :=
  fun m g h => Cert.KernelIdeal.Gen.frame_run m g (Cert.KernelIdeal.Gen.inRange_of m fun c j => Cert.Pre.in_range (h c) j)

theorem frame_reference : Cert.quiescent_ReferenceIdeal :=
  fun m g _ => (θ_run _ _ _).mono
    (fun r h => ⟨fun c => (h c).2.2.2.2.2.2.2.2.2.2.2.2, sem_eq_zero_of_no_sems rfl r.2⟩)
    (Cert.ReferenceIdeal.Value.run m g)

end Cert.Proof

end
-- ==== Proof.Value.Spec.lean ====
/- What the twelve results are, written out over the extended reals. -/
module

public import Idealize.ShloMosaic.Lib.Pointwise

@[expose] public section

noncomputable section

namespace Cert.Value

open Idealize.ShloMosaic

/-- The ten arguments as functions of their coordinates. -/
structure Args where
  x : Fin 8192 → Fin 128 → EReal
  g : Fin 8192 → BitVec 32
  p : Fin 8192 → Fin 2 → EReal
  w1 : Fin 128 → Fin 128 → EReal
  b1 : Fin 128 → EReal
  w2 : Fin 128 → Fin 32 → EReal
  b2 : Fin 32 → EReal
  sc : EReal
  gum : Fin 8192 → Fin 32 → EReal
  am : Fin 32 → EReal

/-- The number added inside the logarithms and to the denominators. -/
abbrev eps : EReal := Ideal.ofBits .f32 0x3089705F#32
/-- The number a switched-off super-node's logit is replaced by. -/
abbrev off : EReal := Ideal.ofBits .f32 0xCE6E6B28#32
/-- The number 8192. -/
abbrev c8192 : EReal := Ideal.ofBits .f32 0x46000000#32
/-- The number 32. -/
abbrev c32 : EReal := Ideal.ofBits .f32 0x42000000#32
/-- The number 1/32. -/
abbrev unif : EReal := Ideal.ofBits .f32 0x3D000000#32

namespace Args

variable (A : Args)

/-- The hidden layer of a token. -/
def hid (n : Fin 8192) (h : Fin 128) : EReal := max (∑ c, A.x n c * A.w1 c h + A.b1 h) 0
/-- A token's logit with its noise. -/
def zed (n : Fin 8192) (k : Fin 32) : EReal :=
  (if A.am k = 0 then off else (∑ h, A.hid n h * A.w2 h k + A.b2 k) * A.sc) + A.gum n k
/-- A token's largest noised logit. -/
def top (n : Fin 8192) : EReal := Finset.univ.sup (A.zed n)
/-- A token's weight before normalizing. -/
def ex (n : Fin 8192) (k : Fin 32) : EReal := Ideal.exp (A.zed n k - A.top n)
/-- A token's soft assignment. -/
def soft (n : Fin 8192) (k : Fin 32) : EReal := Ideal.div (A.ex n k) (∑ j, A.ex n j)
/-- A super-node's average assignment. -/
def avg (k : Fin 32) : EReal := Ideal.div (∑ n, A.soft n k) c8192
/-- The sum of a super-node's assignments over one graph. -/
def den (b : Fin 8) (k : Fin 32) : EReal := ∑ n, if A.g n = BitVec.ofNat 32 b.val then A.soft n k else 0
/-- The pooled features. -/
def out (b : Fin 8) (k : Fin 32) (f : Fin 128) : EReal :=
  Ideal.div (∑ n, if A.g n = BitVec.ofNat 32 b.val then A.soft n k * A.x n f else 0) (A.den b k + eps)
/-- The super-nodes' centroids. -/
def mu (b : Fin 8) (k : Fin 32) (c : Fin 2) : EReal :=
  Ideal.div (∑ n, if A.g n = BitVec.ofNat 32 b.val then A.soft n k * A.p n c else 0) (A.den b k + eps)
/-- The entropy of the assignments, averaged over the tokens. -/
def entropy : EReal := -(Ideal.div (∑ n, ∑ k, A.soft n k * Ideal.log (A.soft n k + eps)) c8192)
/-- The divergence of the uniform distribution from the average assignment. -/
def diversity : EReal := ∑ k, unif * Ideal.log (Ideal.div unif (A.avg k + eps))
/-- How much assignment the switched-off super-nodes get. -/
def pruning : EReal := Ideal.div (∑ k, max (A.avg k * (1 - A.am k)) (-(A.avg k * (1 - A.am k)))) c32
/-- The share of super-nodes switched on. -/
def sparsity : EReal := Ideal.div (∑ k, A.am k) c32
/-- How far the largest average assignment is above uniform. -/
def collapse : EReal := max (Finset.univ.sup A.avg - unif) 0
/-- How far the average assignment is from uniform. -/
def balance : EReal := (∑ k, (A.avg k - unif) * (A.avg k - unif)) * c32
/-- How close the centroids of one graph lie to each other. -/
def separation : EReal :=
  Ideal.div (∑ b, ∑ i, ∑ j, Ideal.exp (-(∑ c, (A.mu b i c - A.mu b j c) * (A.mu b i c - A.mu b j c))) * (1 - if i = j then 1 else 0)) c8192

end Args

end Cert.Value

end
-- ==== Proof.Value.Scatter.lean ====
/- Sums by graph: what adding every token's row into its graph's row leaves at an element. -/
module

public import Idealize.ShloMosaic.Lib.Pointwise
public import Idealize.ShloMosaic.Lib.Routing.OpsPair

@[expose] public section

noncomputable section

namespace Cert.Value

open Idealize.ShloMosaic

theorem word_of_lt {b : ℕ} (hb : b < 8) (w : BitVec 32) : w.toInt = (b : ℤ) ↔ w = BitVec.ofNat 32 b := by
  rw [← BitVec.toInt_inj]
  have : (BitVec.ofNat 32 b).toInt = (b : ℤ) := by
    rw [BitVec.toInt_eq_toNat_of_lt] <;> simp <;> omega
  rw [this]

theorem lands3 {C : ℕ} (d : ScatterDims ⟨3, ![8, 32, C]⟩ ⟨2, ![8192, 1]⟩ ⟨3, ![8192, 32, C]⟩)
    (h1 : d.updateWindowDims = [1, 2]) (h2 : d.insertedWindowDims = [0]) (h3 : d.scatterDimsToOperandDims = [0]) (h4 : d.indexVectorDim = 1)
    (idx : IVec ⟨2, ![8192, 1]⟩ 32) (n : Fin 8192) (k k' : Fin 32) (f f' : Fin C) (b : Fin 8) :
    d.resultIdx? (ix3 n k f) idx = some (ix3 b k' f') ↔ idx (ix2 n 0) = BitVec.ofNat 32 b.val ∧ k = k' ∧ f = f' := by
  obtain ⟨u, i, s, v, wf⟩ := d
  simp only at h1 h2 h3 h4
  subst h1 h2 h3 h4
  rw [Routing.resultIdx?_eq_some, Fin.forall_fin_succ, Fin.forall_fin_two, ← word_of_lt b.isLt]
  have e : ∀ c, ScatterDims.siIdx (⟨[1, 2], [0], [0], 1, wf⟩ : ScatterDims ⟨3, ![8, 32, C]⟩ ⟨2, ![8192, 1]⟩ ⟨3, ![8192, 32, C]⟩) (ix3 n k f) c = ix2 n 0 := by
    intro c
    funext a
    fin_cases a
    · rfl
    · apply Fin.ext
      have := c.isLt
      simp only [List.length_cons, List.length_nil] at this
      show c.val = 0
      omega
  refine and_congr ?_ (and_congr ?_ ?_)
  · show (idx (ScatterDims.siIdx _ _ _)).toInt + ((0 : ℕ) : ℤ) = ((b.val : ℕ) : ℤ) ↔ _
    rw [e]; simp
  · show (0 : ℤ) + ((k.val : ℕ) : ℤ) = ((k'.val : ℕ) : ℤ) ↔ _
    rw [Fin.ext_iff]; omega
  · show (0 : ℤ) + ((f.val : ℕ) : ℤ) = ((f'.val : ℕ) : ℤ) ↔ _
    rw [Fin.ext_iff]; omega

theorem lands2 (d : ScatterDims ⟨2, ![8, 32]⟩ ⟨2, ![8192, 1]⟩ ⟨2, ![8192, 32]⟩)
    (h1 : d.updateWindowDims = [1]) (h2 : d.insertedWindowDims = [0]) (h3 : d.scatterDimsToOperandDims = [0]) (h4 : d.indexVectorDim = 1)
    (idx : IVec ⟨2, ![8192, 1]⟩ 32) (n : Fin 8192) (k k' : Fin 32) (b : Fin 8) :
    d.resultIdx? (ix2 n k) idx = some (ix2 b k') ↔ idx (ix2 n 0) = BitVec.ofNat 32 b.val ∧ k = k' := by
  obtain ⟨u, i, s, v, wf⟩ := d
  simp only at h1 h2 h3 h4
  subst h1 h2 h3 h4
  rw [Routing.resultIdx?_eq_some, Fin.forall_fin_two, ← word_of_lt b.isLt]
  have e : ∀ c, ScatterDims.siIdx (⟨[1], [0], [0], 1, wf⟩ : ScatterDims ⟨2, ![8, 32]⟩ ⟨2, ![8192, 1]⟩ ⟨2, ![8192, 32]⟩) (ix2 n k) c = ix2 n 0 := by
    intro c
    funext a
    fin_cases a
    · rfl
    · apply Fin.ext
      have := c.isLt
      simp only [List.length_cons, List.length_nil] at this
      show c.val = 0
      omega
  refine and_congr ?_ ?_
  · show (idx (ScatterDims.siIdx _ _ _)).toInt + ((0 : ℕ) : ℤ) = ((b.val : ℕ) : ℤ) ↔ _
    rw [e]; simp
  · show (0 : ℤ) + ((k.val : ℕ) : ℤ) = ((k'.val : ℕ) : ℤ) ↔ _
    rw [Fin.ext_iff]; omega

theorem scatter3 {C : ℕ} (d : ScatterDims ⟨3, ![8, 32, C]⟩ ⟨2, ![8192, 1]⟩ ⟨3, ![8192, 32, C]⟩)
    (h1 : d.updateWindowDims = [1, 2]) (h2 : d.insertedWindowDims = [0]) (h3 : d.scatterDimsToOperandDims = [0]) (h4 : d.indexVectorDim = 1)
    (x : (⟨3, ![8, 32, C]⟩ : Shape).Idx → EReal)
    (idx : IVec ⟨2, ![8192, 1]⟩ 32) (upd : (⟨3, ![8192, 32, C]⟩ : Shape).Idx → EReal) (b : Fin 8) (k : Fin 32) (f : Fin C) :
    Ideal.hostScatterAdd d x idx upd (ix3 b k f)
      = x (ix3 b k f) + ∑ n, if idx (ix2 n 0) = BitVec.ofNat 32 b.val then upd (ix3 n k f) else 0 := by
  unfold Ideal.hostScatterAdd
  rw [Finset.sum_filter, sum_idx3]
  refine congrArg _ (Finset.sum_congr rfl fun n _ => ?_)
  simp only [lands3 d h1 h2 h3 h4]
  by_cases h : idx (ix2 n 0) = BitVec.ofNat 32 b.val
  · simp only [h, true_and, if_true]
    rw [Finset.sum_eq_single k, Finset.sum_eq_single f]
    · simp
    · intro f' _ hf; simp [hf]
    · simp
    · intro k' _ hk; simp [hk]
    · simp
  · simp [h]

theorem scatter2 (d : ScatterDims ⟨2, ![8, 32]⟩ ⟨2, ![8192, 1]⟩ ⟨2, ![8192, 32]⟩)
    (h1 : d.updateWindowDims = [1]) (h2 : d.insertedWindowDims = [0]) (h3 : d.scatterDimsToOperandDims = [0]) (h4 : d.indexVectorDim = 1)
    (x : (⟨2, ![8, 32]⟩ : Shape).Idx → EReal)
    (idx : IVec ⟨2, ![8192, 1]⟩ 32) (upd : (⟨2, ![8192, 32]⟩ : Shape).Idx → EReal) (b : Fin 8) (k : Fin 32) :
    Ideal.hostScatterAdd d x idx upd (ix2 b k)
      = x (ix2 b k) + ∑ n, if idx (ix2 n 0) = BitVec.ofNat 32 b.val then upd (ix2 n k) else 0 := by
  unfold Ideal.hostScatterAdd
  rw [Finset.sum_filter, sum_idx2]
  refine congrArg _ (Finset.sum_congr rfl fun n _ => ?_)
  simp only [lands2 d h1 h2 h3 h4]
  by_cases h : idx (ix2 n 0) = BitVec.ofNat 32 b.val
  · simp only [h, true_and, if_true]
    rw [Finset.sum_eq_single k]
    · simp
    · intro k' _ hk; simp [hk]
    · simp
  · simp [h]

theorem bot_of_bits : Ideal.ofBits .f32 0xFF800000#32 = ⊥ := by simp [Ideal.ofBits, Ideal.ieee]

theorem top_of_bits : Ideal.ofBits .f32 0x7F800000#32 = ⊤ := by simp [Ideal.ofBits, Ideal.ieee]

theorem div_by_one (x : EReal) : Ideal.div x 1 = x := by simp [Ideal.div]

/-- The largest element along one axis, as a supremum. -/
theorem hostMax_apply {s t u : Shape} {a : Fin s.rank} (x : s.Idx → EReal) (init : u.Idx → EReal) (h' : s.ReducesTo [a] t) (h : s.Reduces [a] t)
    (hu : 0 < u.numel) (hi : init (Shape.Idx.first hu) = ⊥) (j : t.Idx) :
    Host.reduce (FloatOps.maximumf (F := Ideal) (φ := .f32)) x init h' hu j = Finset.univ.sup fun k => x (h.lift j k) := by
  rw [Host.reduce_eq_fold_single (FloatOps.maximumf (F := Ideal) (φ := .f32)) x init h' h hu j, hi]
  rfl

/-- The largest element of a whole vector. -/
theorem hostMax_all {n : ℕ} {u : Shape} (x : (⟨1, ![n]⟩ : Shape).Idx → EReal) (init : u.Idx → EReal) (h' : (⟨1, ![n]⟩ : Shape).ReducesTo [0] ⟨0, ![]⟩)
    (hu : 0 < u.numel) (hi : init (Shape.Idx.first hu) = ⊥) (j : (⟨0, ![]⟩ : Shape).Idx) :
    Host.reduce (FloatOps.maximumf (F := Ideal) (φ := .f32)) x init h' hu j = Finset.univ.sup fun k => x (ix1 k) := by
  rw [Host.reduce_eq_fold, hi]
  have e : ∀ i, h'.drop i = j := fun i => by funext a; exact a.elim0
  simp only [e, Finset.filter_true]
  show Finset.univ.sup x = _
  refine le_antisymm (Finset.sup_le fun i _ => ?_) (Finset.sup_le fun k _ => Finset.le_sup (f := x) (Finset.mem_univ _))
  rw [eq_ix1 i]
  exact Finset.le_sup (f := fun k => x (ix1 k)) (Finset.mem_univ _)

theorem max_apply {s t : Shape} {a : Fin s.rank} (x : FVec Ideal s .f32) (h : s.Reduces [a] t) (hf : FKind.Formats .f32)
    (hacc : (0xFF800000#32 : BitVec 32) = FKind.maximumf.neutral .f32 hf) (j : t.Idx) :
    multiReduction .maximumf [a] t x 0xFF800000#32 h hf hacc j = Finset.univ.sup fun k => x (h.lift j k) := by
  classical
  rw [multiReduction_maximumf_eq_fold]
  rw [h.fold_filter_drop_single, show (FloatOps.ofBits .f32 0xFF800000#32 : Ideal .f32) = ⊥ from bot_of_bits]
  rfl

end Cert.Value

end
-- ==== Proof.Value.Block.lean ====
/- One block of the kernel, read at an index: the soft assignments and what each graph's rows gain. -/
module

public import proofs.«01_k».proof.Proof.KernelIdeal.Run
public import proofs.«01_k».proof.Proof.Value.Spec
public import proofs.«01_k».proof.Proof.Value.Scatter
public import Idealize.ShloMosaic.Lib.Pointwise

@[expose] public section

set_option maxRecDepth 16384

noncomputable section

namespace Cert.Value

open Idealize.ShloMosaic Idealize.ShloMosaic.TcCoe Idealize.ShloMosaic.Tactic
open Cert.KernelIdeal Cert.KernelIdeal.Gen

/-! ## Windows of rows -/

theorem idx2_eq {n k : ℕ} (i : Fin n) (j : Fin k) : idx2 i j = ix2 i j := by
  funext a; fin_cases a <;> rfl

theorem window_row {C : ℕ} {α : Type} (x : (⟨3, ![8, 32, C]⟩ : Shape).Idx → α) (b : Fin 8)
    (inb : ∀ a, (![b.val, 0, 0] : Fin 3 → ℕ) a + (![1, 32, C] : Fin 3 → ℕ) a ≤ (⟨3, ![8, 32, C]⟩ : Shape).size a) (k : Fin 32) (f : Fin C) :
    VecWindow.window x ![b.val, 0, 0] ![1, 32, C] inb (ix3 0 k f) = x (ix3 b k f) := by
  refine congrArg x (funext fun a => Fin.ext ?_)
  fin_cases a
  · show b.val + 1 * 0 = b.val; omega
  · show 0 + 1 * k.val = k.val; omega
  · show 0 + 1 * f.val = f.val; omega

theorem put_row {C : ℕ} {α : Type} (x : (⟨3, ![8, 32, C]⟩ : Shape).Idx → α) (b b' : Fin 8) (w : (⟨3, ![1, 32, C]⟩ : Shape).Idx → α) (k : Fin 32) (f : Fin C) :
    VecWindow.put (s := ⟨3, ![8, 32, C]⟩) x ![b.val, 0, 0] ![1, 32, C] w (ix3 b' k f) = if b' = b then w (ix3 0 k f) else x (ix3 b' k f) := by
  unfold VecWindow.put
  by_cases h : b' = b
  · subst h
    have hin : ∀ a, (![b'.val, 0, 0] : Fin 3 → ℕ) a ≤ ((ix3 b' k f : (⟨3, ![8, 32, C]⟩ : Shape).Idx) a).val
        ∧ ((ix3 b' k f : (⟨3, ![8, 32, C]⟩ : Shape).Idx) a).val < (![b'.val, 0, 0] : Fin 3 → ℕ) a + (![1, 32, C] : Fin 3 → ℕ) a := by
      intro a
      fin_cases a
      · exact ⟨le_refl b'.val, Nat.lt_succ_self _⟩
      · exact ⟨Nat.zero_le _, by show k.val < 0 + 32; have := k.isLt; omega⟩
      · exact ⟨Nat.zero_le _, by show f.val < 0 + C; have := f.isLt; omega⟩
    rw [dif_pos hin, if_pos rfl]
    refine congrArg w (funext fun a => Fin.ext ?_)
    fin_cases a
    · show b'.val - b'.val = 0; omega
    · show k.val - 0 = k.val; omega
    · show f.val - 0 = f.val; omega
  · rw [dif_neg, if_neg h]
    intro hin
    have := hin 0
    have h1 : b.val ≤ b'.val := this.1
    have h2 : b'.val < b.val + 1 := this.2
    exact h (Fin.ext (by omega))

/-! ## The conditions of a block -/

theorem cond_single : ∀ l h : Fin 8, k0_cond2 (BitVec.ofNat 32 l.val) (BitVec.ofNat 32 h.val) = 1#1 ↔ l = h := by decide

theorem cond_several : ∀ l h : Fin 8,
    Scalar.cmpi .ne (Scalar.extui (Scalar.cmpi .ne (BitVec.ofNat 32 l.val) (BitVec.ofNat 32 h.val))) 0#32 = 1#1 ↔ l ≠ h := by decide

theorem cond_graph : ∀ l h b : Fin 8, graphCond b (BitVec.ofNat 32 l.val) (BitVec.ofNat 32 h.val) = 1#1 ↔ l ≤ b ∧ b ≤ h := by decide

/-! ## A block's inputs -/

/-- The token in row `r` of block `t`. -/
def tok (t : Fin 4) (r : Fin 2048) : Fin 8192 := ⟨2048 * t.val + r.val, by omega⟩

/-- The inputs of block `t` are the arguments' rows. -/
structure Fits (A : Args) (t : Fin 4) (X : Ins Ideal) : Prop where
  x1 : ∀ r c, X.x1 (ix2 r c) = A.x (tok t r) c
  x2 : ∀ r, X.x2 (ix2 0 r) = A.g (tok t r)
  one : ∀ r, X.x3 (ix2 0 r) = (1 : EReal)
  p0 : ∀ r, X.x3 (ix2 1 r) = A.p (tok t r) 0
  p1 : ∀ r, X.x3 (ix2 2 r) = A.p (tok t r) 1
  x4 : ∀ c h, X.x4 (ix2 c h) = A.w1 c h
  x5 : ∀ h, X.x5 (ix2 h 0) = A.b1 h
  x6 : ∀ h k, X.x6 (ix2 h k) = A.w2 h k
  x7 : ∀ k, X.x7 (ix2 k 0) = A.b2 k
  x8 : X.x8 (ix2 0 0) = A.sc
  x9 : ∀ k r, X.x9 (ix2 k r) = A.gum (tok t r) k
  x10 : ∀ k, X.x10 (ix2 k 0) = A.am k

variable {A : Args} {t : Fin 4} {X : Ins Ideal} (H : Fits A t X)

include H in
theorem blk_zed (k : Fin 32) (r : Fin 2048) : X.num (ix2 k r) = A.zed (tok t r) k := by
  unfold Ins.num expo
  rw [idx2_eq]
  pointwise [k0_pay75]
  simp only [H.x1, H.x4, H.x5, H.x6, H.x7, H.x8, H.x9, H.x10]
  unfold Args.zed Args.hid
  simp only [mul_comm]

include H in
theorem blk_top (r : Fin 2048) : X.tot (ix2 0 r) = A.top (tok t r) := by
  unfold Ins.tot expoSum
  rw [idx2_eq]
  pointwise [k0_pay76]
  rw [bot_of_bits]
  refine Finset.sup_congr rfl fun k _ => ?_
  rw [← idx2_eq]
  exact blk_zed H k r

include H in
theorem blk_soft (k : Fin 32) (r : Fin 2048) : X.soft (ix2 k r) = A.soft (tok t r) k := by
  unfold Ins.soft
  pointwise [k0_pay77]
  simp only [blk_zed H, blk_top H]
  rfl

/-! ## What a graph's rows gain from a block -/

/-- The block's part of the pooled features of graph `b`. -/
def sOut (A : Args) (t : Fin 4) (b : Fin 8) (k : Fin 32) (f : Fin 128) : EReal :=
  ∑ r, if A.g (tok t r) = BitVec.ofNat 32 b.val then A.soft (tok t r) k * A.x (tok t r) f else 0
/-- The block's part of the centroid sums of graph `b`. -/
def sMu (A : Args) (t : Fin 4) (b : Fin 8) (k : Fin 32) (c : Fin 2) : EReal :=
  ∑ r, if A.g (tok t r) = BitVec.ofNat 32 b.val then A.soft (tok t r) k * A.p (tok t r) c else 0
/-- The block's part of the denominators of graph `b`. -/
def sDen (A : Args) (t : Fin 4) (b : Fin 8) (k : Fin 32) : EReal :=
  ∑ r, if A.g (tok t r) = BitVec.ofNat 32 b.val then A.soft (tok t r) k else 0

/-- The three collecting buffers hold the given numbers. -/
structure AccIs (st : Acc Ideal) (U : Fin 8 → Fin 32 → Fin 128 → EReal) (M : Fin 8 → Fin 32 → Fin 2 → EReal) (D : Fin 8 → Fin 32 → EReal) : Prop where
  out : ∀ b k f, st.out (ix3 b k f) = U b k f
  mu : ∀ b k c, st.mu (ix3 b k c) = M b k c
  den : ∀ b k, st.den (ix2 k b) = D b k

theorem word_bit (a b : BitVec 32) : (FloatOps.sitofp .f32 (BitVec.setWidth 32 (IntOp.cmpi .eq a b)) : Ideal .f32) = if a = b then (1 : EReal) else 0 := by
  show ((((BitVec.ofBool (a == b)).setWidth 32).toInt : ℝ) : EReal) = _
  by_cases h : a = b
  · rw [if_pos h, beq_iff_eq.mpr h]; simp
  · rw [if_neg h, beq_eq_false_iff_ne.mpr h]; simp

theorem graphPart_apply (b : BitVec 32) (s : FVec Ideal S32x2048 .f32) (g : IVec S1x2048 32) (k : Fin 32) (r : Fin 2048) :
    graphPart b s g (ix2 k r) = if g (ix2 0 r) = b then s (ix2 k r) else (0 : EReal) := by
  pointwise [graphPart]
  rw [word_bit]
  split_ifs <;> simp

theorem rowOut_apply (x : FVec Ideal S2048x128 .f32) (z : FVec Ideal S32x2048 .f32) (row : Vec Ideal S1x32x128 .f32) (k : Fin 32) (f : Fin 128) :
    rowOut x z row (ix3 0 k f) = row (ix3 0 k f) + ∑ r, z (ix2 k r) * x (ix2 r f) := by
  pointwise [rowOut]

theorem rowMu_apply (z : FVec Ideal S32x2048 .f32) (q : FVec Ideal S3x2048 .f32) (row : Vec Ideal S1x32x2 .f32) (k : Fin 32) (c : Fin 2) :
    rowMu (sums3 z q) row (ix3 0 k c) = row (ix3 0 k c) + ∑ r, z (ix2 k r) * q (ix2 ⟨1 + c.val, by omega⟩ r) := by
  pointwise [rowMu, sums3]

theorem colDen_apply (b : BitVec 32) (z : FVec Ideal S32x2048 .f32) (q : FVec Ideal S3x2048 .f32) (d : Vec Ideal S32x8 .f32) (k : Fin 32) (b' : Fin 8) :
    colDen b (sums3 z q) d (ix2 k b') = d (ix2 k b') + (∑ r, z (ix2 k r) * q (ix2 0 r)) * (if BitVec.ofNat 32 b'.val = b then (1 : EReal) else 0) := by
  pointwise [colDen, sums3]
  rw [word_bit]

variable {gn : Fin 8192 → Fin 8} (hg : ∀ n, A.g n = BitVec.ofNat 32 (gn n).val) (hm : Monotone gn)

theorem word_inj (a b : Fin 8) : BitVec.ofNat 32 a.val = BitVec.ofNat 32 b.val ↔ a = b := by
  rw [← BitVec.toNat_inj, Fin.ext_iff]
  simp only [BitVec.toNat_ofNat]
  have := a.isLt
  have := b.isLt
  omega

include H hg in
theorem lo_eq : X.lo = BitVec.ofNat 32 (gn (tok t 0)).val := by
  rw [← hg, ← H.x2]
  refine congrArg X.x2 (funext fun a => Fin.ext ?_)
  fin_cases a <;> rfl

include H hg in
theorem hi_eq : X.hi = BitVec.ofNat 32 (gn (tok t 2047)).val := by
  rw [← hg, ← H.x2]
  refine congrArg X.x2 (funext fun a => Fin.ext ?_)
  fin_cases a <;> rfl

include H hg in
theorem gr_eq : X.gr = gn (tok t 0) := by
  unfold Ins.gr
  rw [lo_eq H hg]
  refine Fin.ext ?_
  have := (gn (tok t 0)).isLt
  show (BitVec.ofNat 32 (gn (tok t 0)).val).toNat % 8 = _
  simp only [BitVec.toNat_ofNat]
  omega

include hm in
theorem between (r : Fin 2048) : gn (tok t 0) ≤ gn (tok t r) ∧ gn (tok t r) ≤ gn (tok t 2047) := by
  refine ⟨hm ?_, hm ?_⟩
  · show 2048 * t.val + 0 ≤ 2048 * t.val + r.val; omega
  · show 2048 * t.val + r.val ≤ 2048 * t.val + 2047; have := r.isLt; omega

theorem x2_read (r : Fin 2048) : k0_pay80 (F := Ideal) X.x2 (ix2 0 r) = X.x2 (ix2 0 r) := by pointwise [k0_pay80]
theorem x3_read (i : Fin 3) (r : Fin 2048) : k0_pay81 X.x3 (ix2 i r) = X.x3 (ix2 i r) := by pointwise [k0_pay81]

include H in
theorem part_apply (b : Fin 8) (k : Fin 32) (r : Fin 2048) :
    graphPart (BitVec.ofNat 32 b.val) X.soft (k0_pay80 (F := Ideal) X.x2) (ix2 k r) = if A.g (tok t r) = BitVec.ofNat 32 b.val then A.soft (tok t r) k else 0 := by
  rw [graphPart_apply, x2_read, H.x2, blk_soft H]

include H in
theorem pos_apply (c : Fin 2) (r : Fin 2048) : k0_pay81 X.x3 (ix2 ⟨1 + c.val, by omega⟩ r) = A.p (tok t r) c := by
  rw [x3_read]
  fin_cases c
  · exact H.p0 r
  · exact H.p1 r

theorem ite_mul_sum {ι : Type} [Fintype ι] (p : ι → Prop) [DecidablePred p] (f g : ι → EReal) :
    ∑ r, (if p r then f r else 0) * g r = ∑ r, if p r then f r * g r else 0 :=
  Finset.sum_congr rfl fun r _ => by split_ifs <;> simp

variable {st : Acc Ideal} {U : Fin 8 → Fin 32 → Fin 128 → EReal} {M : Fin 8 → Fin 32 → Fin 2 → EReal} {D : Fin 8 → Fin 32 → EReal}

/-- Rows of one graph replaced. -/
theorem at_is (hs : AccIs st U M D) (b : Fin 8) (p12 : Vec Ideal S1x32x128 .f32 → FVec Ideal S1x32x128 .f32) (p13 : Vec Ideal S1x32x2 .f32 → FVec Ideal S1x32x2 .f32)
    (p15 : Vec Ideal S32x8 .f32 → FVec Ideal S32x8 .f32) (u : Fin 32 → Fin 128 → EReal) (v : Fin 32 → Fin 2 → EReal) (w : Fin 32 → EReal)
    (h12 : ∀ row k f, p12 row (ix3 0 k f) = row (ix3 0 k f) + u k f) (h13 : ∀ row k c, p13 row (ix3 0 k c) = row (ix3 0 k c) + v k c)
    (h15 : ∀ d k b', p15 d (ix2 k b') = d (ix2 k b') + w k * if BitVec.ofNat 32 b'.val = BitVec.ofNat 32 b.val then (1 : EReal) else 0) :
    AccIs (st.at b p12 p13 p15) (fun b' k f => if b' = b then U b' k f + u k f else U b' k f) (fun b' k c => if b' = b then M b' k c + v k c else M b' k c)
      (fun b' k => if b' = b then D b' k + w k else D b' k) where
  out b' k f := by
    refine (put_row (C := 128) st.out b b' _ k f).trans ?_
    by_cases h : b' = b
    · rw [if_pos h, if_pos h, h12, h, ← hs.out]
      exact congrArg (· + _) (window_row (C := 128) st.out b _ k f)
    · rw [if_neg h, if_neg h, hs.out]
  mu b' k f := by
    refine (put_row (C := 2) st.mu b b' _ k f).trans ?_
    by_cases h : b' = b
    · rw [if_pos h, if_pos h, h13, h, ← hs.mu]
      exact congrArg (· + _) (window_row (C := 2) st.mu b _ k f)
    · rw [if_neg h, if_neg h, hs.mu]
  den b' k := by
    refine (h15 st.den k b').trans ?_
    simp only [hs.den, word_inj]
    by_cases h : b' = b
    · rw [if_pos h, if_pos h, mul_one]
    · rw [if_neg h, if_neg h, mul_zero, add_zero]

include H hg hm in
theorem graph_is (hs : AccIs st U M D) (b : Fin 8) :
    AccIs (st.graph X.x1 X.soft (k0_pay80 (F := Ideal) X.x2) (k0_pay81 X.x3) X.lo X.hi b)
      (fun b' k f => if b' = b then U b' k f + sOut A t b k f else U b' k f) (fun b' k c => if b' = b then M b' k c + sMu A t b k c else M b' k c)
      (fun b' k => if b' = b then D b' k + sDen A t b k else D b' k) := by
  unfold Acc.graph
  by_cases h : graphCond b X.lo X.hi = 1#1
  · rw [if_pos h]
    refine at_is hs b _ _ _ _ _ _ (fun row k f => ?_) (fun row k c => ?_) (fun d k b' => ?_)
    · rw [rowOut_apply]
      refine congrArg _ ?_
      simp only [part_apply H, H.x1]
      rw [ite_mul_sum]
      rfl
    · rw [rowMu_apply]
      refine congrArg _ ?_
      simp only [part_apply H, pos_apply H]
      rw [ite_mul_sum]
      rfl
    · rw [colDen_apply]
      refine congrArg _ (congrArg (· * _) ?_)
      simp only [part_apply H, x3_read, H.one, mul_one]
      rfl
  · rw [if_neg h]
    rw [lo_eq H hg, hi_eq H hg, cond_graph] at h
    have hz : ∀ r, A.g (tok t r) ≠ BitVec.ofNat 32 b.val := fun r e => by
      rw [hg, word_inj] at e
      subst e
      exact h (between hm r)
    have e1 : ∀ k f, sOut A t b k f = 0 := fun k f => by simp [sOut, hz]
    have e2 : ∀ k c, sMu A t b k c = 0 := fun k c => by simp [sMu, hz]
    have e3 : ∀ k, sDen A t b k = 0 := fun k => by simp [sDen, hz]
    simp only [e1, e2, e3, add_zero, ite_self]
    exact hs

include H hg hm in
theorem single_is (hs : AccIs st U M D) (h : gn (tok t 0) = gn (tok t 2047)) :
    AccIs (st.single X.x1 X.num X.tot X.x3 (firstOf X.x2) (lastOf X.x2) X.gr)
      (fun b k f => U b k f + sOut A t b k f) (fun b k c => M b k c + sMu A t b k c) (fun b k => D b k + sDen A t b k) := by
  unfold Acc.single
  rw [if_pos (by show k0_cond2 X.lo X.hi = 1#1; rw [lo_eq H hg, hi_eq H hg]; exact (cond_single _ _).mpr h), gr_eq H hg]
  have hall : ∀ r, gn (tok t r) = gn (tok t 0) := fun r => le_antisymm ((between hm r).2.trans h.ge) (between hm r).1
  have hz : ∀ b, ∀ r, A.g (tok t r) = BitVec.ofNat 32 b.val ↔ b = gn (tok t 0) := fun b r => by
    rw [hg, word_inj, hall]; exact eq_comm
  have key := at_is hs (gn (tok t 0)) (k0_pay83 X.x1 X.num X.tot) (k0_pay85 X.num X.tot X.x3) (k0_pay84 X.num X.tot X.x3 (firstOf X.x2))
    (fun k f => ∑ r, A.soft (tok t r) k * A.x (tok t r) f) (fun k c => ∑ r, A.soft (tok t r) k * A.p (tok t r) c) (fun k => ∑ r, A.soft (tok t r) k)
    (fun row k f => by
      pointwise [k0_pay83]
      simp only [blk_soft H, H.x1])
    (fun row k c => by
      pointwise [k0_pay85, k0_pay82]
      simp only [blk_soft H, pos_apply H])
    (fun d k b' => by
      pointwise [k0_pay84, k0_pay82]
      simp only [blk_soft H, x3_read, H.one, mul_one]
      have e : firstOf (F := Ideal) X.x2 (ix2 0 0) = X.lo :=
        congrArg (firstOf (F := Ideal) X.x2) (funext fun a => Fin.ext (by fin_cases a <;> rfl))
      rw [word_bit, ← lo_eq H hg, e])
  refine ⟨fun b k f => (key.out b k f).trans ?_, fun b k c => (key.mu b k c).trans ?_, fun b k => (key.den b k).trans ?_⟩ <;>
  · simp only [sOut, sMu, sDen, hz]
    by_cases hb : b = gn (tok t 0) <;> simp [hb]

include H hg hm in
theorem pooled_is (i : grid0.Coords) (hs : AccIs (st.start i) U M D) :
    AccIs (st.pooled i X)
      (fun b k f => U b k f + sOut A t b k f) (fun b k c => M b k c + sMu A t b k c) (fun b k => D b k + sDen A t b k) := by
  unfold Acc.pooled Acc.spread
  by_cases h : gn (tok t 0) = gn (tok t 2047)
  · rw [if_neg (by rw [lo_eq H hg, hi_eq H hg, cond_several]; exact not_not.mpr h)]
    exact single_is H hg hm hs h
  · rw [if_pos (by rw [lo_eq H hg, hi_eq H hg, cond_several]; exact h)]
    unfold Acc.single
    rw [if_neg (by show ¬ k0_cond2 X.lo X.hi = 1#1; rw [lo_eq H hg, hi_eq H hg, cond_single]; exact h)]
    have key := graph_is H hg hm (graph_is H hg hm (graph_is H hg hm (graph_is H hg hm (graph_is H hg hm (graph_is H hg hm (graph_is H hg hm (graph_is H hg hm hs 0) 1) 2) 3) 4) 5) 6) 7
    refine ⟨fun b k f => (key.out b k f).trans ?_, fun b k c => (key.mu b k c).trans ?_, fun b k => (key.den b k).trans ?_⟩ <;>
    · fin_cases b <;> simp

end Cert.Value

end
-- ==== Proof.Value.Entry.lean ====
/- The blocks the points read, as parts of the argument arrays. -/
module

public import proofs.«01_k».proof.Proof.KernelIdeal.Range
public import proofs.«01_k».proof.Proof.Value.Block
public import Idealize.ShloMosaic.Lib.Pipeline.ValueKit
public import Idealize.ShloMosaic.Lib.Pipeline.Value

@[expose] public section

set_option maxRecDepth 16384

noncomputable section

namespace Cert.Value

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The argument arrays of a core, as functions of their coordinates. -/
def heldArgs : Args where
  x n k := (m ((c : Thread nD τ).loc main_arg0) : FVec Ideal S8192x128 .f32) (ix2 n k)
  g n := (m ((c : Thread nD τ).loc main_arg1) : IVec S8192 32) (ix1 n)
  p n k := (m ((c : Thread nD τ).loc main_arg2) : FVec Ideal S8192x2 .f32) (ix2 n k)
  w1 k h := (m ((c : Thread nD τ).loc main_arg3) : FVec Ideal S128x128 .f32) (ix2 k h)
  b1 h := (m ((c : Thread nD τ).loc main_arg4) : FVec Ideal S128 .f32) (ix1 h)
  w2 h k := (m ((c : Thread nD τ).loc main_arg5) : FVec Ideal S128x32 .f32) (ix2 h k)
  b2 k := (m ((c : Thread nD τ).loc main_arg6) : FVec Ideal S32 .f32) (ix1 k)
  sc := (m ((c : Thread nD τ).loc main_arg7) : FVec Ideal S_ .f32) ix0
  gum n k := (m ((c : Thread nD τ).loc main_arg8) : FVec Ideal S8192x32 .f32) (ix2 n k)
  am k := (m ((c : Thread nD τ).loc main_arg9) : FVec Ideal S32 .f32) (ix1 k)

/-! ## What the host writes before the region -/

set_option maxHeartbeats 4000000 in
/-- The six arrays the host prepares, each from the argument it rearranges. -/
theorem host_prepares :
    V m c main_v3 = concatenate S3x8192 0 [⟨S1x8192, broadcastInDim S1x8192 ![] bcast_S_S1x8192 (constant (F := Ideal) S_ .f32 0x3F800000#32)⟩, ⟨S2x8192, transpose S2x8192 [1, 0] (m ((c : Thread nD τ).loc main_arg2)) transposes_S8192x2_S2x8192_1_0⟩] concatenates_S1x8192_S2x8192_S3x8192_d0
    ∧ V m c main_v4 = shapeCast S128x1 (m ((c : Thread nD τ).loc main_arg4)) shapeCasts_S128_S128x1
    ∧ V m c main_v5 = shapeCast S32x1 (m ((c : Thread nD τ).loc main_arg6)) shapeCasts_S32_S32x1
    ∧ V m c main_v6 = shapeCast S1x1 (m ((c : Thread nD τ).loc main_arg7)) shapeCasts_S_S1x1
    ∧ V m c main_v7 = transpose S32x8192 [1, 0] (m ((c : Thread nD τ).loc main_arg8)) transposes_S8192x32_S32x8192_1_0
    ∧ V m c main_v8 = shapeCast S32x1 (m ((c : Thread nD τ).loc main_arg9)) shapeCasts_S32_S32x1 := by
  refine ⟨?_, ?_, ?_, ?_, ?_, ?_⟩
  all_goals
    show StableHlo.after (List.flatten [hostOps0]) (fun b => m (c, b)) (Proc.devRef .tc _) = _
    simp only [hostOps0, List.flatten_cons, List.flatten_nil, List.append_nil]
    after_results
    all_goals rfl

/-- Where the blocks of point `t` lie: the moving ones at row (or column) block `t`, all others at the origin. -/
theorem places : ∀ t : Fin cfg0.N,
    (win0_0.index t 0 = t.val ∧ win0_0.index t 1 = 0) ∧ (win0_1.index t 0 = 0 ∧ win0_1.index t 1 = t.val) ∧ (win0_2.index t 0 = 0 ∧ win0_2.index t 1 = t.val)
    ∧ (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) ∧ (win0_8.index t 0 = 0 ∧ win0_8.index t 1 = t.val)
    ∧ (win0_9.index t 0 = 0 ∧ win0_9.index t 1 = 0) ∧ (win0_10.index t 0 = t.val ∧ win0_10.index t 1 = 0) := by
  decide +kernel

theorem blk_x (t : Fin 4) (r : Fin 2048) (k : Fin 128) : iblk m c 0 t (ix2 r k) = V m c main_arg0 (ix2 (tok t r) k) := by
  blk_ext [iblk, places t, tok] <;> omega
theorem blk_g (t : Fin 4) (r : Fin 2048) : iblk m c 1 t (ix2 0 r) = V m c main_v0 (ix2 0 (tok t r)) := by
  blk_ext [iblk, places t, tok] <;> omega
theorem blk_p (t : Fin 4) (j : Fin 3) (r : Fin 2048) : iblk m c 2 t (ix2 j r) = V m c main_v3 (ix2 j (tok t r)) := by
  blk_ext [iblk, places t, tok] <;> omega
theorem blk_w1 (t : Fin 4) (i : Fin 128) (j : Fin 128) : iblk m c 3 t (ix2 i j) = V m c main_arg3 (ix2 i j) := by
  blk_ext [iblk, places t]
theorem blk_b1 (t : Fin 4) (i : Fin 128) : iblk m c 4 t (ix2 i 0) = V m c main_v4 (ix2 i 0) := by
  blk_ext [iblk, places t]
theorem blk_w2 (t : Fin 4) (i : Fin 128) (j : Fin 32) : iblk m c 5 t (ix2 i j) = V m c main_arg5 (ix2 i j) := by
  blk_ext [iblk, places t]
theorem blk_b2 (t : Fin 4) (i : Fin 32) : iblk m c 6 t (ix2 i 0) = V m c main_v5 (ix2 i 0) := by
  blk_ext [iblk, places t]
theorem blk_sc (t : Fin 4) : iblk m c 7 t (ix2 0 0) = V m c main_v6 (ix2 0 0) := by
  blk_ext [iblk, places t]
theorem blk_gum (t : Fin 4) (k : Fin 32) (r : Fin 2048) : iblk m c 8 t (ix2 k r) = V m c main_v7 (ix2 k (tok t r)) := by
  blk_ext [iblk, places t, tok] <;> omega
theorem blk_am (t : Fin 4) (i : Fin 32) : iblk m c 9 t (ix2 i 0) = V m c main_v8 (ix2 i 0) := by
  blk_ext [iblk, places t]

theorem fit_g (n : Fin 8192) : V m c main_v0 (ix2 0 n) = (heldArgs m c).g n := by
  rw [V_main_v0]
  refine (shapeCast_addUnit_apply (n := 1) ![8192] _ shapeCasts_S8192_S1x8192 (ix2 0 n)).trans ?_
  refine congrArg (m ((c : Thread nD τ).loc main_arg1) : IVec S8192 32) (funext fun a => ?_)
  fin_cases a; rfl

theorem fit_one (n : Fin 8192) : V m c main_v3 (ix2 0 n) = (1 : EReal) := by
  rw [(host_prepares m c).1]
  pointwise []
  try rfl

theorem fit_p0 (n : Fin 8192) : V m c main_v3 (ix2 1 n) = (heldArgs m c).p n 0 := by
  rw [(host_prepares m c).1]
  pointwise []
  try rfl

theorem fit_p1 (n : Fin 8192) : V m c main_v3 (ix2 2 n) = (heldArgs m c).p n 1 := by
  rw [(host_prepares m c).1]
  pointwise []
  try rfl

theorem fit_b1 (h : Fin 128) : V m c main_v4 (ix2 h 0) = (heldArgs m c).b1 h := by
  rw [(host_prepares m c).2.1]
  pointwise []
  try rfl

theorem fit_b2 (h : Fin 32) : V m c main_v5 (ix2 h 0) = (heldArgs m c).b2 h := by
  rw [(host_prepares m c).2.2.1]
  pointwise []
  try rfl

theorem fit_sc  : V m c main_v6 (ix2 0 0) = (heldArgs m c).sc := by
  rw [(host_prepares m c).2.2.2.1]
  pointwise []
  try rfl

theorem fit_gum (k : Fin 32) (n : Fin 8192) : V m c main_v7 (ix2 k n) = (heldArgs m c).gum n k := by
  rw [(host_prepares m c).2.2.2.2.1]
  pointwise []
  try rfl

theorem fit_am (h : Fin 32) : V m c main_v8 (ix2 h 0) = (heldArgs m c).am h := by
  rw [(host_prepares m c).2.2.2.2.2]
  pointwise []
  try rfl

/-- The blocks of point `t` are the rows `2048 t` to `2048 t + 2047` of the rowed arguments, and the whole of the others. -/
theorem fits (t : Fin 4) : Fits (heldArgs m c) t (ins m c t) := by
  constructor <;> intros <;> dsimp only [ins]
  · rw [blk_x, V_main_arg0]; rfl
  · rw [blk_g, fit_g]
  · rw [blk_p, fit_one]
  · rw [blk_p, fit_p0]
  · rw [blk_p, fit_p1]
  · rw [blk_w1, V_main_arg3]; rfl
  · rw [blk_b1, fit_b1]
  · rw [blk_w2, V_main_arg5]; rfl
  · rw [blk_b2, fit_b2]
  · rw [blk_sc, fit_sc]
  · rw [blk_gum, fit_gum]
  · rw [blk_am, fit_am]

end Cert.Value

end
-- ==== Proof.Value.Carried.lean ====
/- What the buffers that the points share hold after the last point. -/
module

public import proofs.«01_k».proof.Proof.Value.Entry

@[expose] public section

set_option maxRecDepth 16384

noncomputable section

namespace Cert.Value

open Idealize.ShloMosaic Idealize.ShloMosaic.TcCoe Idealize.ShloMosaic.Tactic
open Cert.KernelIdeal Cert.KernelIdeal.Gen

/-- The four blocks' sums are the sum over all tokens. -/
theorem sum_blocks (f : Fin 8192 → EReal) :
    (∑ r, f (tok 0 r)) + (∑ r, f (tok 1 r)) + (∑ r, f (tok 2 r)) + (∑ r, f (tok 3 r)) = ∑ n, f n := by
  rw [← Fin.sum_univ_four (fun t => ∑ r, f (tok t r)), ← Fintype.sum_prod_type' (fun t r => f (tok t r))]
  refine Fintype.sum_equiv (finProdFinEquiv (m := 4) (n := 2048)) _ _ fun x => congrArg f (Fin.ext ?_)
  show 2048 * x.1.val + x.2.val = x.2.val + 2048 * x.1.val
  omega

/-- A point's addition to the entropy sum. -/
theorem ent_gain {A : Args} {t : Fin 4} {X : Ins Ideal} (H : Fits A t X) (e : EReal) :
    k0_pay79 X.num X.tot e = e + ∑ r, ∑ k, A.soft (tok t r) k * Ideal.log (A.soft (tok t r) k + eps) := by
  have hs : ∀ k r, k0_pay77 X.num X.tot (ix2 k r) = A.soft (tok t r) k := blk_soft H
  pointwise [k0_pay79]
  simp only [hs, Fin.sum_univ_one]

/-- The block of soft assignments a point leaves. -/
theorem soft_block {A : Args} {t : Fin 4} {X : Ins Ideal} (H : Fits A t X) (r : Fin 2048) (k : Fin 32) :
    k0_pay78 X.num X.tot (ix2 r k) = A.soft (tok t r) k := by
  have hs : ∀ k r, k0_pay77 X.num X.tot (ix2 k r) = A.soft (tok t r) k := blk_soft H
  pointwise [k0_pay78]
  exact hs k r

theorem start_first (i : grid0.Coords) (h : k0_cond1 i = 1#1) (st : Acc Ideal) : AccIs (st.start i) (fun _ _ _ => 0) (fun _ _ _ => 0) (fun _ _ => 0) := by
  rw [Acc.start, if_pos h]
  constructor <;> intros <;> pointwise [k0_pay71, k0_pay72, k0_pay73]

variable (m : (ℓ : Loc nD τ sig) → Buf (Elt Ideal) ℓ) (c : Dev nD)
variable {gn : Fin 8192 → Fin 8} (hg : ∀ n, (heldArgs m c).g n = BitVec.ofNat 32 (gn n).val) (hm : Monotone gn)

local notation "𝔸" => heldArgs m c

theorem acc_next (t : Fin 4) (h3 : t.val % 4 ≠ 3) (n n' : ℕ) (hn : n = t.val) (hn' : n' = t.val + 1) :
    (carried m c n').acc = (carried m c n).acc.pooled (grid0.coords t) (ins m c t) := by
  subst hn hn'
  have hl : ¬ k0_cond12 (grid0.coords t) = 1#1 := fun h => h3 ((last_iff t).mp h)
  have e := carried_succ m c t
  rw [e]
  show (carried m c t.val).acc.next (grid0.coords t) (ins m c t) = _
  rw [Acc.next, if_neg hl]

theorem start_later (t : Fin 4) (h0 : t.val % 4 ≠ 0) (st : Acc Ideal) : st.start (grid0.coords t) = st := by
  rw [Acc.start, if_neg fun h => h0 ((first_iff t).mp h)]

theorem ent_next (t : Fin 4) (n n' : ℕ) (hn : n = t.val) (hn' : n' = t.val + 1) :
    (carried m c n').ent = entNext (grid0.coords t) (ins m c t) (carried m c n).ent := by
  subst hn hn'
  have e := carried_succ m c t
  rw [e]
  rfl

/-- A point adds its block's part to the entropy sum, which the first point starts at zero. -/
theorem ent_is (t : Fin 4) (e : Vec Ideal S1x1 .f32) : entNext (grid0.coords t) (ins m c t) e (ix2 0 0)
    = (if t.val % 4 = 0 then 0 else e (ix2 0 0)) + ∑ r, ∑ k, (𝔸).soft (tok t r) k * Ideal.log ((𝔸).soft (tok t r) k + eps) := by
  unfold entNext entStart
  refine (ent_gain (fits m c t) _).trans (congrArg (· + _) ?_)
  by_cases h : t.val % 4 = 0
  · rw [if_pos h, if_pos ((first_iff t).mpr h)]
    pointwise []
  · rw [if_neg h, if_neg fun h' => h ((first_iff t).mp h'), idx2_eq]

include hg hm in
/-- After the last point's additions the collecting buffers hold the sums over all tokens. -/
theorem sums : AccIs ((carried m c 3).acc.pooled (grid0.coords (3 : Fin 4)) (ins m c (3 : Fin 4)))
    (fun b k f => ∑ n, if (𝔸).g n = BitVec.ofNat 32 b.val then (𝔸).soft n k * (𝔸).x n f else 0)
    (fun b k j => ∑ n, if (𝔸).g n = BitVec.ofNat 32 b.val then (𝔸).soft n k * (𝔸).p n j else 0)
    (𝔸).den := by
  have a1 := acc_next m c 0 (by decide) 0 1 rfl rfl
  have a2 := acc_next m c 1 (by decide) 1 2 rfl rfl
  have a3 := acc_next m c 2 (by decide) 2 3 rfl rfl
  generalize carried m c 3 = C3 at a3 ⊢
  generalize carried m c 2 = C2 at a2 a3
  generalize carried m c 1 = C1 at a1 a2
  generalize carried m c 0 = C0 at a1
  have h0 : k0_cond1 (grid0.coords (0 : Fin 4)) = 1#1 := (first_iff (0 : Fin 4)).mpr rfl
  have s1 := pooled_is (fits m c 0) hg hm _ (start_first _ h0 C0.acc)
  rw [← a1] at s1
  have s2 := pooled_is (fits m c 1) hg hm (grid0.coords (1 : Fin 4)) (st := C1.acc) (by rw [start_later 1 (by decide)]; exact s1)
  rw [← a2] at s2
  have s3 := pooled_is (fits m c 2) hg hm (grid0.coords (2 : Fin 4)) (st := C2.acc) (by rw [start_later 2 (by decide)]; exact s2)
  rw [← a3] at s3
  have s4 := pooled_is (fits m c 3) hg hm (grid0.coords (3 : Fin 4)) (st := C3.acc) (by rw [start_later 3 (by decide)]; exact s3)
  refine ⟨fun b k f => (s4.out b k f).trans ?_, fun b k j => (s4.mu b k j).trans ?_, fun b k => (s4.den b k).trans ?_⟩
  · rw [zero_add]
    exact sum_blocks fun n => if (𝔸).g n = BitVec.ofNat 32 b.val then (𝔸).soft n k * (𝔸).x n f else 0
  · rw [zero_add]
    exact sum_blocks fun n => if (𝔸).g n = BitVec.ofNat 32 b.val then (𝔸).soft n k * (𝔸).p n j else 0
  · rw [zero_add]
    exact sum_blocks fun n => if (𝔸).g n = BitVec.ofNat 32 b.val then (𝔸).soft n k else 0

/-- The entropy sum after the last point is the sum over all tokens. -/
theorem ent_sum : entNext (grid0.coords (3 : Fin 4)) (ins m c (3 : Fin 4)) (carried m c 3).ent (idx2 0 0)
    = ∑ n, ∑ k, (𝔸).soft n k * Ideal.log ((𝔸).soft n k + eps) := by
  have a1 := ent_next m c 0 0 1 rfl rfl
  have a2 := ent_next m c 1 1 2 rfl rfl
  have a3 := ent_next m c 2 2 3 rfl rfl
  generalize carried m c 3 = C3 at a3 ⊢
  generalize carried m c 2 = C2 at a2 a3
  generalize carried m c 1 = C1 at a1 a2
  generalize carried m c 0 = C0 at a1
  rw [idx2_eq, ent_is, a3, ent_is, a2, ent_is, a1, ent_is, if_pos (show (0 : Fin 4).val % 4 = 0 from rfl),
    if_neg (show ¬ (3 : Fin 4).val % 4 = 0 by decide), if_neg (show ¬ (2 : Fin 4).val % 4 = 0 by decide), if_neg (show ¬ (1 : Fin 4).val % 4 = 0 by decide), zero_add]
  exact sum_blocks fun n => ∑ k, (𝔸).soft n k * Ideal.log ((𝔸).soft n k + eps)

end Cert.Value

end
-- ==== Proof.Value.Real.lean ====
/- With finite rows and positions the assignments and centroids are real numbers. -/
module

public import proofs.«01_k».proof.Proof.Value.Spec
public import Idealize.ShloMosaic.Lib.Pointwise

@[expose] public section

set_option maxRecDepth 16384

noncomputable section

namespace Cert.Value

open Idealize.ShloMosaic

/-! ## The constants -/

theorem eps_real : ∃ r : ℝ, 0 < r ∧ eps = (r : EReal) := by
  refine ⟨_, ?_, by simp [eps, Ideal.ofBits, Ideal.ieee]; rfl⟩
  norm_num
theorem unif_real : ∃ r : ℝ, 0 < r ∧ unif = (r : EReal) := by
  refine ⟨_, ?_, by simp [unif, Ideal.ofBits, Ideal.ieee]; rfl⟩
  norm_num
theorem c8192_real : ∃ r : ℝ, 0 < r ∧ c8192 = (r : EReal) := by
  refine ⟨_, ?_, by simp [c8192, Ideal.ofBits, Ideal.ieee]; rfl⟩
  norm_num
theorem two_real : Ideal.ofBits .f32 0x40000000#32 = ((2 : ℝ) : EReal) := by
  simp only [Ideal.ofBits, Ideal.ieee]
  simp
  rw [← EReal.coe_mul]
  norm_num

theorem div_real (x y : ℝ) (h : y ≠ 0) : Ideal.div (x : EReal) (y : EReal) = ((x / y : ℝ) : EReal) := by
  rw [Ideal.div_coe h, ← EReal.coe_mul, mul_one_div]

/-- A sum of real numbers is the real sum. -/
theorem sum_real {ι : Type} [Fintype ι] (f : ι → ℝ) : ∑ i, (f i : EReal) = ((∑ i, f i : ℝ) : EReal) :=
  (map_sum (⟨⟨((↑) : ℝ → EReal), EReal.coe_zero⟩, EReal.coe_add⟩ : ℝ →+ EReal) f Finset.univ).symm

/-- Subtracting from zero before the division or after it is the same. -/
theorem div_neg (x : EReal) : Ideal.div (0 - x) c8192 = -(Ideal.div x c8192) := by
  obtain ⟨r, hr, e⟩ := c8192_real
  rw [e, Ideal.div_coe hr.ne', Ideal.div_coe hr.ne', zero_sub, EReal.neg_mul]

/-! ## The assignments -/

namespace Args

variable (A : Args)

/-- Every row's largest noised logit is finite. -/
def RowsFinite : Prop := ∀ n, A.top n ≠ ⊤ ∧ A.top n ≠ ⊥
/-- Every position is finite. -/
def PosFinite : Prop := ∀ n c, A.p n c ≠ ⊤ ∧ A.p n c ≠ ⊥

variable {A} (hF : A.RowsFinite) (hP : A.PosFinite)

include hF in
theorem ex_real (n : Fin 8192) (k : Fin 32) : ∃ e : ℝ, 0 ≤ e ∧ A.ex n k = (e : EReal) := by
  obtain ⟨h1, h2⟩ := hF n
  have hle : A.zed n k ≤ A.top n := Finset.le_sup (f := A.zed n) (Finset.mem_univ k)
  unfold ex
  lift A.top n to ℝ using ⟨h1, h2⟩ with T hT
  induction hz : A.zed n k with
  | bot => exact ⟨0, le_rfl, by rw [EReal.bot_sub]; rfl⟩
  | top => rw [hz] at hle; exact absurd (top_le_iff.mp hle) (EReal.coe_ne_top T)
  | coe z => exact ⟨Real.exp (z - T), (Real.exp_pos _).le, by rw [← EReal.coe_sub, Ideal.exp_coe]⟩

include hF in
/-- In every row some weight is one. -/
theorem ex_one (n : Fin 8192) : ∃ k, A.ex n k = ((1 : ℝ) : EReal) := by
  obtain ⟨h1, h2⟩ := hF n
  obtain ⟨k, -, hk⟩ := Finset.exists_mem_eq_sup Finset.univ ⟨(0 : Fin 32), Finset.mem_univ _⟩ (A.zed n)
  refine ⟨k, ?_⟩
  have e : A.zed n k = A.top n := hk.symm
  unfold ex
  rw [e]
  lift A.top n to ℝ using ⟨h1, h2⟩ with T hT
  rw [← EReal.coe_sub, sub_self, Ideal.exp_coe, Real.exp_zero]

include hF in
theorem soft_real : ∃ s : Fin 8192 → Fin 32 → ℝ, (∀ n k, 0 ≤ s n k) ∧ ∀ n k, A.soft n k = (s n k : EReal) := by
  choose e he hx using fun n k => ex_real hF n k
  have hpos : ∀ n, 0 < ∑ k, e n k := fun n => by
    obtain ⟨k, hk⟩ := ex_one hF n
    rw [hx, EReal.coe_eq_coe_iff] at hk
    exact lt_of_lt_of_le (by rw [hk]; exact one_pos) (Finset.single_le_sum (f := e n) (fun j _ => he n j) (Finset.mem_univ k))
  refine ⟨fun n k => e n k / ∑ j, e n j, fun n k => div_nonneg (he n k) (hpos n).le, fun n k => ?_⟩
  unfold soft
  simp only [hx, sum_real]
  exact div_real _ _ (hpos n).ne'

include hF in
theorem avg_real (k : Fin 32) : ∃ a : ℝ, 0 ≤ a ∧ A.avg k = (a : EReal) := by
  obtain ⟨s, hs, e⟩ := soft_real hF
  obtain ⟨r, hr, er⟩ := c8192_real
  refine ⟨(∑ n, s n k) / r, div_nonneg (Finset.sum_nonneg fun n _ => hs n k) hr.le, ?_⟩
  unfold avg
  simp only [e, sum_real, er]
  exact div_real _ _ hr.ne'

include hF in
theorem den_real (b : Fin 8) (k : Fin 32) : ∃ d : ℝ, 0 ≤ d ∧ A.den b k = (d : EReal) := by
  obtain ⟨s, hs, e⟩ := soft_real hF
  refine ⟨∑ n, if A.g n = BitVec.ofNat 32 b.val then s n k else 0, Finset.sum_nonneg fun n _ => ?_, ?_⟩
  · split_ifs
    · exact hs n k
    · exact le_rfl
  · unfold den
    rw [← sum_real]
    refine Finset.sum_congr rfl fun n _ => ?_
    split_ifs
    · exact e n k
    · rfl

include hF hP in
theorem mu_real (b : Fin 8) (k : Fin 32) (c : Fin 2) : ∃ u : ℝ, A.mu b k c = (u : EReal) := by
  obtain ⟨s, hs, e⟩ := soft_real hF
  obtain ⟨d, hd, ed⟩ := den_real hF b k
  obtain ⟨r, hr, er⟩ := eps_real
  have hp : ∀ n, ∃ p : ℝ, A.p n c = (p : EReal) := fun n => ⟨_, (EReal.coe_toReal (hP n c).1 (hP n c).2).symm⟩
  choose p hp using hp
  refine ⟨(∑ n, if A.g n = BitVec.ofNat 32 b.val then s n k * p n else 0) / (d + r), ?_⟩
  have es : (∑ n, if A.g n = BitVec.ofNat 32 b.val then A.soft n k * A.p n c else 0)
      = ((∑ n, if A.g n = BitVec.ofNat 32 b.val then s n k * p n else 0 : ℝ) : EReal) := by
    rw [← sum_real]
    refine Finset.sum_congr rfl fun n _ => ?_
    split_ifs
    · rw [e, hp, EReal.coe_mul]
    · rfl
  unfold mu
  rw [es, ed, er, ← EReal.coe_add]
  exact div_real _ _ (by positivity)

include hF in
/-- The divergence as a difference of logarithms. -/
theorem diversity_eq (k : Fin 32) : Ideal.log unif - Ideal.log (A.avg k + eps) = Ideal.log (Ideal.div unif (A.avg k + eps)) := by
  obtain ⟨a, ha, ea⟩ := avg_real hF k
  obtain ⟨r, hr, er⟩ := eps_real
  obtain ⟨u, hu, eu⟩ := unif_real
  have hy : 0 < a + r := by linarith
  rw [ea, er, eu, ← EReal.coe_add, div_real _ _ hy.ne', Ideal.log_coe, Ideal.log_coe, Ideal.log_coe, if_neg (not_le.mpr hu), if_neg (not_le.mpr hy),
    if_neg (not_le.mpr (div_pos hu hy)), Real.log_div hu.ne' hy.ne', EReal.coe_sub]

include hF hP in
/-- The squared distance of two centroids from their squared lengths and their product. -/
theorem distance_eq (b : Fin 8) (i j : Fin 32) :
    0 - ((∑ c, A.mu b i c * A.mu b i c) + (∑ c, A.mu b j c * A.mu b j c) - Ideal.ofBits .f32 0x40000000#32 * ∑ c, A.mu b i c * A.mu b j c)
      = -(∑ c, (A.mu b i c - A.mu b j c) * (A.mu b i c - A.mu b j c)) := by
  choose u hu using fun k c => mu_real hF hP b k c
  simp only [hu, two_real, zero_sub, Fin.sum_univ_two]
  norm_cast
  push_cast
  norm_cast
  ring_nf

/-- Over all graphs a super-node's sums are the sum over all tokens, each token lying in one graph. -/
theorem den_sum {gn : Fin 8192 → Fin 8} (hg : ∀ n, A.g n = BitVec.ofNat 32 (gn n).val) (k : Fin 32) : ∑ b, A.den b k = ∑ n, A.soft n k := by
  unfold den
  rw [Finset.sum_comm]
  refine Finset.sum_congr rfl fun n _ => ?_
  have h : ∀ b : Fin 8, (A.g n = BitVec.ofNat 32 b.val) ↔ gn n = b := fun b => by
    rw [hg]
    constructor
    · intro e
      have := congrArg BitVec.toNat e
      simp only [BitVec.toNat_ofNat] at this
      exact Fin.ext (by omega)
    · rintro rfl; rfl
  simp only [h, Finset.sum_ite_eq, Finset.mem_univ, if_true]

end Args

end Cert.Value

end
-- ==== Proof.Value.Ref.lean ====
/- The reference's soft assignments, in the notation of the results written out. -/
module

public import proofs.«01_k».proof.Proof.Gen.ReferenceIdeal.Run
public import proofs.«01_k».proof.Proof.Gen.ReferenceIdeal.Read
public import proofs.«01_k».proof.Proof.Gen.Pre_graphs_sorted_rows_finite
public import proofs.«01_k».proof.Proof.Value.Spec
public import proofs.«01_k».proof.Proof.Value.Scatter
public import Idealize.ShloMosaic.Lib.Pointwise
public import Idealize.ShloMosaic.Lib.Claim

@[expose] public section

set_option maxRecDepth 16384

noncomputable section

namespace Cert.Value

open Idealize.ShloMosaic Idealize.ShloMosaic.TcCoe Idealize.ShloMosaic.Tactic
open Cert.ReferenceIdeal Cert.ReferenceIdeal.Read

variable [Cert.ReferenceIdeal.Facts]

/-- The ten argument arrays as functions of their coordinates. -/
def argsOf (x0 : FVec Ideal S8192x128 .f32) (x1 : IVec S8192 32) (x2 : FVec Ideal S8192x2 .f32) (x3 : FVec Ideal S128x128 .f32)
    (x4 : FVec Ideal S128 .f32) (x5 : FVec Ideal S128x32 .f32) (x6 : FVec Ideal S32 .f32) (x7 : FVec Ideal S_ .f32)
    (x8 : FVec Ideal S8192x32 .f32) (x9 : FVec Ideal S32 .f32) : Args where
  x n c := x0 (ix2 n c)
  g n := x1 (ix1 n)
  p n c := x2 (ix2 n c)
  w1 c h := x3 (ix2 c h)
  b1 h := x4 (ix1 h)
  w2 h k := x5 (ix2 h k)
  b2 k := x6 (ix1 k)
  sc := x7 ix0
  gum n k := x8 (ix2 n k)
  am k := x9 (ix1 k)

variable (x0 : FVec Ideal S8192x128 .f32) (x1 : IVec S8192 32) (x2 : FVec Ideal S8192x2 .f32) (x3 : FVec Ideal S128x128 .f32)
    (x4 : FVec Ideal S128 .f32) (x5 : FVec Ideal S128x32 .f32) (x6 : FVec Ideal S32 .f32) (x7 : FVec Ideal S_ .f32)
    (x8 : FVec Ideal S8192x32 .f32) (x9 : FVec Ideal S32 .f32)

local notation "𝔸" => argsOf x0 x1 x2 x3 x4 x5 x6 x7 x8 x9

theorem ref_hid (n : Fin 8192) (h : Fin 128) : val_main_v4 (F := Ideal) x0 x3 x4 (ix2 n h) = (𝔸).hid n h := by
  pointwise [val_main_v4, val_main_v3, val_main_v0, val_main_v2, val_main_v1, val_main_call0_v0, val_main_call0_cst]
  rfl

theorem ref_zed (n : Fin 8192) (k : Fin 32) : val_main_v17 (F := Ideal) x0 x3 x4 x5 x6 x7 x8 x9 (ix2 n k) = (𝔸).zed n k := by
  pointwise [val_main_v17, val_main_v16, val_main_cst_1, val_main_v15, val_main_v14, val_main_call1_v1, val_main_call1_v2, val_main_call1_v0, val_main_cst_0,
    val_main_v13, val_main_v12, val_main_cst, val_main_v11, val_main_v10, val_main_v9, val_main_v8, val_main_v7, val_main_v6, val_main_v5]
  simp only [ref_hid x0 x1 x2 x3 x4 x5 x6 x7 x8 x9, div_by_one]
  rfl

theorem ref_most (n : Fin 8192) : val_main_v18 (F := Ideal) x0 x3 x4 x5 x6 x7 x8 x9 (ix1 n) = (𝔸).top n := by
  rw [val_main_v18, hostMax_apply _ _ _ (by decide) _ bot_of_bits]
  refine Finset.sup_congr rfl fun k _ => ?_
  refine Eq.trans (congrArg (val_main_v17 (F := Ideal) x0 x3 x4 x5 x6 x7 x8 x9) ?_) (ref_zed x0 x1 x2 x3 x4 x5 x6 x7 x8 x9 n k)
  funext a; fin_cases a <;> rfl

theorem ref_top (n : Fin 8192) : val_main_v20 (F := Ideal) x0 x3 x4 x5 x6 x7 x8 x9 (ix1 n) = (𝔸).top n := by
  pointwise [val_main_v20, val_main_v19, val_main_cst_3]
  rw [ref_most x0 x1 x2 x3 x4 x5 x6 x7 x8 x9, bot_of_bits, max_eq_right bot_le]

theorem ref_soft (n : Fin 8192) (k : Fin 32) : val_main_v28 (F := Ideal) x0 x3 x4 x5 x6 x7 x8 x9 (ix2 n k) = (𝔸).soft n k := by
  pointwise [val_main_v28, val_main_v27, val_main_v26, val_main_v25, val_main_v24, val_main_v23, val_main_v22, val_main_v21, val_main_cst_4]
  simp only [ref_zed x0 x1 x2 x3 x4 x5 x6 x7 x8 x9, ref_top x0 x1 x2 x3 x4 x5 x6 x7 x8 x9]
  rfl

theorem ref_avg (k : Fin 32) : val_main_v31 (F := Ideal) x0 x3 x4 x5 x6 x7 x8 x9 (ix1 k) = (𝔸).avg k := by
  pointwise [val_main_v31, val_main_v30, val_main_cst_6, val_main_v29, val_main_cst_5]
  simp only [ref_soft x0 x1 x2 x3 x4 x5 x6 x7 x8 x9]
  rfl

theorem ref_entropy (i : S_.Idx) : val_main_v39 (F := Ideal) x0 x3 x4 x5 x6 x7 x8 x9 i = (𝔸).entropy := by
  obtain rfl : i = ix0 := by funext a; exact a.elim0
  pointwise [val_main_v39, val_main_v38, val_main_cst_10, val_main_v37, val_main_cst_9, val_main_v36, val_main_cst_8, val_main_v35, val_main_v34, val_main_v33, val_main_v32, val_main_cst_7]
  simp only [ref_soft x0 x1 x2 x3 x4 x5 x6 x7 x8 x9]
  rfl

theorem ref_diversity (i : S_.Idx) : val_main_v46 (F := Ideal) x0 x3 x4 x5 x6 x7 x8 x9 i = (𝔸).diversity := by
  obtain rfl : i = ix0 := by funext a; exact a.elim0
  pointwise [val_main_v46, val_main_cst_13, val_main_v45, val_main_v44, val_main_v43, val_main_v42, val_main_v41, val_main_cst_12, val_main_v40, val_main_cst_11]
  simp only [ref_avg x0 x1 x2 x3 x4 x5 x6 x7 x8 x9]
  rfl

theorem ref_pruning (i : S_.Idx) : val_main_v52 (F := Ideal) x0 x3 x4 x5 x6 x7 x8 x9 i = (𝔸).pruning := by
  obtain rfl : i = ix0 := by funext a; exact a.elim0
  pointwise [val_main_v52, val_main_cst_16, val_main_v51, val_main_cst_15, val_main_v50, val_main_v49, val_main_v48, val_main_v47, val_main_cst_14]
  simp only [ref_avg x0 x1 x2 x3 x4 x5 x6 x7 x8 x9]
  rfl

theorem ref_sparsity (i : S_.Idx) : val_main_v54 (F := Ideal) x9 i = (𝔸).sparsity := by
  obtain rfl : i = ix0 := by funext a; exact a.elim0
  pointwise [val_main_v54, val_main_cst_18, val_main_v53, val_main_cst_17]
  rfl

theorem ref_collapse (i : S_.Idx) : val_main_v57 (F := Ideal) x0 x3 x4 x5 x6 x7 x8 x9 i = (𝔸).collapse := by
  obtain rfl : i = ix0 := by funext a; exact a.elim0
  pointwise [val_main_v57, val_main_cst_21, val_main_v56, val_main_cst_20]
  rw [val_main_v55, hostMax_all _ _ _ _ bot_of_bits]
  simp only [ref_avg x0 x1 x2 x3 x4 x5 x6 x7 x8 x9]
  rfl

theorem ref_balance (i : S_.Idx) : val_main_v62 (F := Ideal) x0 x3 x4 x5 x6 x7 x8 x9 i = (𝔸).balance := by
  obtain rfl : i = ix0 := by funext a; exact a.elim0
  pointwise [val_main_v62, val_main_cst_24, val_main_v61, val_main_cst_23, val_main_v60, val_main_v59, val_main_v58, val_main_cst_22]
  simp only [ref_avg x0 x1 x2 x3 x4 x5 x6 x7 x8 x9]
  rfl

theorem ref_den (b : Fin 8) (k : Fin 32) : val_main_v73 (F := Ideal) x0 x1 x3 x4 x5 x6 x7 x8 x9 (ix2 b k) = (𝔸).den b k := by
  have h : val_main_v73 (F := Ideal) x0 x1 x3 x4 x5 x6 x7 x8 x9 (ix2 b k)
      = Ideal.hostScatterAdd scatter_S8x32_S8192x1_S8192x32_1_0_0_1 (val_main_v71 (F := Ideal)) (val_main_v72 (F := Ideal) x1) (val_main_v28 (F := Ideal) x0 x3 x4 x5 x6 x7 x8 x9) (ix2 b k) := rfl
  rw [h, scatter2 _ rfl rfl rfl rfl]
  pointwise [val_main_v71, val_main_cst_26, val_main_v72]
  simp only [ref_soft x0 x1 x2 x3 x4 x5 x6 x7 x8 x9]
  rfl

theorem ref_out (b : Fin 8) (k : Fin 32) (f : Fin 128) : val_main_v78 (F := Ideal) x0 x1 x3 x4 x5 x6 x7 x8 x9 (ix3 b k f) = (𝔸).out b k f := by
  pointwise [val_main_v78, val_main_v77, val_main_v76, val_main_v75, val_main_cst_27, val_main_v74]
  have h : val_main_v70 (F := Ideal) x0 x1 x3 x4 x5 x6 x7 x8 x9 (ix3 b k f)
      = Ideal.hostScatterAdd scatter_S8x32x128_S8192x1_S8192x32x128_12_0_0_1 (val_main_v68 (F := Ideal)) (val_main_v69 (F := Ideal) x1) (val_main_v67 (F := Ideal) x0 x3 x4 x5 x6 x7 x8 x9) (ix3 b k f) := rfl
  rw [h, scatter3 _ rfl rfl rfl rfl]
  pointwise [val_main_v68, val_main_cst_25, val_main_v69, val_main_v67, val_main_v66, val_main_v65, val_main_v64, val_main_v63]
  simp only [ref_soft x0 x1 x2 x3 x4 x5 x6 x7 x8 x9, ref_den x0 x1 x2 x3 x4 x5 x6 x7 x8 x9]
  rfl

theorem ref_mu (b : Fin 8) (k : Fin 32) (f : Fin 2) : val_main_v91 (F := Ideal) x0 x1 x2 x3 x4 x5 x6 x7 x8 x9 (ix3 b k f) = (𝔸).mu b k f := by
  pointwise [val_main_v91, val_main_v90, val_main_v89, val_main_v88, val_main_cst_29, val_main_v87]
  have h : val_main_v86 (F := Ideal) x0 x1 x2 x3 x4 x5 x6 x7 x8 x9 (ix3 b k f)
      = Ideal.hostScatterAdd scatter_S8x32x2_S8192x1_S8192x32x2_12_0_0_1 (val_main_v84 (F := Ideal)) (val_main_v85 (F := Ideal) x1) (val_main_v83 (F := Ideal) x0 x2 x3 x4 x5 x6 x7 x8 x9) (ix3 b k f) := rfl
  rw [h, scatter3 _ rfl rfl rfl rfl]
  pointwise [val_main_v84, val_main_cst_28, val_main_v85, val_main_v83, val_main_v82, val_main_v81, val_main_v80, val_main_v79]
  simp only [ref_soft x0 x1 x2 x3 x4 x5 x6 x7 x8 x9, ref_den x0 x1 x2 x3 x4 x5 x6 x7 x8 x9]
  rfl

theorem eye_word (i j : Fin 32) : (IntOp.addi (BitVec.ofNat 32 i.val) 0#32 = BitVec.ofNat 32 j.val) ↔ i = j := by
  show BitVec.ofNat 32 i.val + 0#32 = BitVec.ofNat 32 j.val ↔ i = j
  rw [BitVec.add_zero, ← BitVec.toNat_inj, Fin.ext_iff]
  simp only [BitVec.toNat_ofNat]
  have := i.isLt
  have := j.isLt
  omega

theorem eye_u (i j : Fin 32) : (FloatOps.uitofp .f32 (IntOp.cmpi .eq (IntOp.addi (BitVec.ofNat 32 i.val) 0#32) (BitVec.ofNat 32 j.val)) : Ideal .f32)
    = if i = j then (1 : EReal) else 0 := by
  show ((((BitVec.ofBool (IntOp.addi (BitVec.ofNat 32 i.val) 0#32 == BitVec.ofNat 32 j.val)).toNat : ℕ) : ℝ) : EReal) = _
  by_cases h : i = j
  · rw [if_pos h, beq_iff_eq.mpr ((eye_word i j).mpr h)]; simp
  · rw [if_neg h, beq_eq_false_iff_ne.mpr (fun e => h ((eye_word i j).mp e))]; simp

theorem ref_separation (i : S_.Idx) : val_main_v113 (F := Ideal) x0 x1 x2 x3 x4 x5 x6 x7 x8 x9 i = (𝔸).separation := by
  obtain rfl : i = ix0 := by funext a; exact a.elim0
  pointwise [val_main_v113, val_main_cst_33, val_main_v112, val_main_cst_32, val_main_v111, val_main_v110, val_main_v109, val_main_v108, val_main_cst_31, val_main_v107, val_main_v106,
    val_main_v105, val_main_v104, val_main_v103, val_main_v102, val_main_v101, val_main_c, val_main_v100, val_main_v99,
    val_main_v98, val_main_cst_30, val_main_v97, val_main_v96, val_main_v95, val_main_v94, val_main_v93, val_main_v92]
  simp only [ref_mu x0 x1 x2 x3 x4 x5 x6 x7 x8 x9, eye_u]
  rfl

end Cert.Value

end
-- ==== Proof.Value.Ends.lean ====
/- The numbers the last point computes from the collected sums, read in the notation of the results. -/
module

public import proofs.«01_k».proof.Proof.Value.Carried
public import proofs.«01_k».proof.Proof.Value.Real
public import proofs.«01_k».proof.Proof.Value.Ref

@[expose] public section

set_option maxRecDepth 16384

noncomputable section

namespace Cert.Value

open Idealize.ShloMosaic Idealize.ShloMosaic.TcCoe Idealize.ShloMosaic.Tactic
open Cert.KernelIdeal Cert.KernelIdeal.Gen

variable {A : Args} {gn : Fin 8192 → Fin 8} (hg : ∀ n, A.g n = BitVec.ofNat 32 (gn n).val) (hF : A.RowsFinite) (hP : A.PosFinite)
  {d : Vec Ideal S32x8 .f32} (hd : ∀ b k, d (ix2 k b) = A.den b k)
  {mu : Vec Ideal S8x32x2 .f32} (hmu : ∀ b k j, mu (ix3 b k j) = A.mu b k j)
  {x10 : Vec Ideal S32x1 .f32} (h10 : ∀ k, x10 (ix2 k 0) = A.am k)

include hd in
theorem divided_out (o : Vec Ideal S8x32x128 .f32) (b : Fin 8) (k : Fin 32) (f : Fin 128) :
    k0_pay50 d o (ix3 b k f) = Ideal.div (o (ix3 b k f)) (A.den b k + eps) := by
  pointwise [k0_pay50, k0_pay49, k0_pay48]
  rw [hd]

include hd in
theorem divided_mu (o : Vec Ideal S8x32x2 .f32) (b : Fin 8) (k : Fin 32) (j : Fin 2) :
    k0_pay51 d o (ix3 b k j) = Ideal.div (o (ix3 b k j)) (A.den b k + eps) := by
  pointwise [k0_pay51, k0_pay49, k0_pay48]
  rw [hd]

include hd hg in
theorem avg_row (k : Fin 32) : k0_pay52 d (ix2 0 k) = A.avg k := by
  pointwise [k0_pay52, k0_pay48]
  simp only [hd, Args.den_sum hg]
  rfl

include hd hg hF in
theorem div_cell : k0_pay55 (k0_pay54 d) = A.diversity := by
  have ha := avg_row hg hd
  pointwise [k0_pay55, k0_pay54]
  simp only [ha, Fin.sum_univ_one]
  exact Finset.sum_congr rfl fun k _ => congrArg (unif * ·) (Args.diversity_eq hF k)

include hd hg h10 in
theorem pruning_cell : k0_pay57 (k0_pay52 d) x10 = A.pruning := by
  have ha := avg_row hg hd
  pointwise [k0_pay57, k0_pay56]
  simp only [ha, h10, Fin.sum_univ_one]
  rfl

include h10 in
theorem sparsity_cell : k0_pay58 x10 = A.sparsity := by
  pointwise [k0_pay58, k0_pay56]
  simp only [h10, Fin.sum_univ_one]
  rfl

/-- The largest of a row of 32 numbers. -/
theorem fold_row (f : Fin 32 → EReal) : Finset.fold max (Ideal.ofBits .f32 0xFF800000#32) (fun x : Fin 1 × Fin 32 => f x.2) Finset.univ = Finset.univ.sup f := by
  rw [bot_of_bits]
  refine le_antisymm ((Finset.fold_max_le _).mpr ⟨bot_le, fun x _ => Finset.le_sup (Finset.mem_univ x.2)⟩) (Finset.sup_le fun k _ => ?_)
  exact Finset.le_fold_max (f k) |>.mpr (Or.inr ⟨(0, k), Finset.mem_univ _, le_rfl⟩)

include hd hg in
theorem collapse_cell : k0_pay59 (k0_pay52 d) = A.collapse := by
  have ha := avg_row hg hd
  pointwise [k0_pay59]
  simp only [ha]
  rw [fold_row A.avg]
  rfl

include hd hg in
theorem balance_cell : k0_pay60 (k0_pay52 d) = A.balance := by
  have ha := avg_row hg hd
  pointwise [k0_pay60]
  simp only [ha, Fin.sum_univ_one]
  rfl

/-- One graph's separation before the division. -/
def sep (A : Args) (b : Fin 8) : EReal :=
  ∑ i, ∑ j, Ideal.exp (-(∑ c, (A.mu b i c - A.mu b j c) * (A.mu b i c - A.mu b j c))) * (1 - if i = j then 1 else 0)

theorem eye_s (i j : Fin 32) : (k0_pay61 : FVec Ideal S32x32 .f32) (ix2 i j) = 1 - if i = j then (1 : EReal) else 0 := by
  pointwise [k0_pay61]
  rw [word_bit]
  simp only [eye_word]

/-- The centroids of one graph, read off its row. -/
abbrev RowOf (A : Args) (b : Fin 8) (w : Vec Ideal S1x32x2 .f32) : Prop := ∀ i j, w (ix3 0 i j) = A.mu b i j

include hmu in
theorem row_of (b : Fin 8) : RowOf A b (muRow mu b) := fun i j => (window_row mu b _ i j).trans (hmu b i j)

section
variable {b : Fin 8} {w : Vec Ideal S1x32x2 .f32} (hw : RowOf A b w)

include hF hP hw

theorem sep_first : k0_pay63 k0_pay61 k0_pay62 w = sep A b := by
  pointwise [k0_pay63, k0_pay62]
  simp only [hw _ _, Args.distance_eq hF hP, eye_s, Fin.sum_univ_one]
  rfl

theorem sep_64 : k0_pay64 k0_pay61 k0_pay62 w (ix3 0 0 0) = sep A b := by
  pointwise [k0_pay64, k0_pay62]
  simp only [hw _ _, Args.distance_eq hF hP, eye_s, Fin.sum_univ_one]
  rfl

theorem sep_65 (s : EReal) (u : FVec Ideal S1x1x1 .f32) : k0_pay65 k0_pay61 k0_pay62 s u w = s + u (ix3 0 0 0) + sep A b := by
  pointwise [k0_pay65, k0_pay62]
  simp only [hw _ _, Args.distance_eq hF hP, eye_s, Fin.sum_univ_one]
  rfl

theorem sep_66 (i j : Fin 32) : k0_pay66 k0_pay61 k0_pay62 w (ix3 0 i j)
    = Ideal.exp (-(∑ c, (A.mu b i c - A.mu b j c) * (A.mu b i c - A.mu b j c))) * (1 - if i = j then 1 else 0) := by
  pointwise [k0_pay66, k0_pay62]
  simp only [hw _ _, Args.distance_eq hF hP, eye_s, Fin.sum_univ_one]

theorem sep_67 (s : EReal) (u : FVec Ideal S1x32x32 .f32) : k0_pay67 k0_pay61 k0_pay62 s u w = s + (∑ i, ∑ j, u (ix3 0 i j)) + sep A b := by
  pointwise [k0_pay67, k0_pay62]
  simp only [hw _ _, Args.distance_eq hF hP, eye_s, Fin.sum_univ_one]
  rfl

theorem sep_68 (i j : Fin 32) : k0_pay68 k0_pay61 k0_pay62 w (ix2 i j)
    = Ideal.exp (-(∑ c, (A.mu b i c - A.mu b j c) * (A.mu b i c - A.mu b j c))) * (1 - if i = j then 1 else 0) := by
  pointwise [k0_pay68, k0_pay62]
  simp only [hw _ _, Args.distance_eq hF hP, eye_s, Fin.sum_univ_one]

theorem sep_69 (s : EReal) (u : FVec Ideal S32x32 .f32) : k0_pay69 k0_pay61 k0_pay62 s u w = s + (∑ i, ∑ j, u (ix2 i j)) + sep A b := by
  pointwise [k0_pay69, k0_pay62]
  simp only [hw _ _, Args.distance_eq hF hP, eye_s, Fin.sum_univ_one]
  rfl

theorem sep_17 (s : EReal) : k0_pay17 k0_pay61 s (k0_pay70 k0_pay62 w) (ix2 0 0) = Ideal.div (s + sep A b) c8192 := by
  pointwise [k0_pay17, k0_pay70, k0_pay62]
  simp only [hw _ _, Args.distance_eq hF hP, eye_s, Fin.sum_univ_one]
  rfl

end

include hF hP hmu in
theorem sep_cell : k0_pay17 k0_pay61 (sep7 mu) (k0_pay70 k0_pay62 (muRow mu 7)) (ix2 0 0) = A.separation := by
  have r := fun b => row_of (A := A) hmu b
  rw [sep_17 hF hP (r 7)]
  unfold sep7
  rw [sep_69 hF hP (r 6), sep_67 hF hP (r 4), sep_65 hF hP (r 2), sep_first hF hP (r 0), sep_64 hF hP (r 1)]
  simp only [sep_66 hF hP (r 3), sep_68 hF hP (r 5)]
  unfold Args.separation
  rw [Fin.sum_univ_eight]
  rfl

/-- One of the cells in the first row. -/
theorem put_cell (x : Vec Ideal S8x128 .f32) (j k : ℕ) (hj : j < 128) (hk : k < 128) (w : Vec Ideal S1x1 .f32) :
    VecWindow.put x ![0, k] S1x1.size w (ix2 0 ⟨j, hj⟩) = if j = k then w (ix2 0 0) else x (ix2 0 ⟨j, hj⟩) := by
  unfold VecWindow.put
  by_cases h : j = k
  · subst h
    rw [dif_pos (fun a => by fin_cases a; exacts [⟨le_rfl, Nat.zero_lt_one⟩, ⟨le_refl j, Nat.lt_succ_self j⟩]), if_pos rfl]
    refine congrArg w (funext fun a => Fin.ext ?_)
    fin_cases a
    · rfl
    · show j - j = 0; omega
  · rw [dif_neg, if_neg h]
    intro hin
    have h1 : k ≤ j := (hin 1).1
    have h2 : j < k + 1 := (hin 1).2
    omega

/-- What the last point leaves in the first seven cells. -/
structure CellsAre (A : Args) (a : Vec Ideal S8x128 .f32) : Prop where
  entropy : a (ix2 0 0) = A.entropy
  diversity : a (ix2 0 1) = A.diversity
  pruning : a (ix2 0 2) = A.pruning
  sparsity : a (ix2 0 3) = A.sparsity
  collapse : a (ix2 0 4) = A.collapse
  balance : a (ix2 0 5) = A.balance
  separation : a (ix2 0 6) = A.separation

include hg hF hP hd hmu h10 in
theorem cells_are (a : Vec Ideal S8x128 .f32) (e : Vec Ideal S1x1 .f32)
    (he : e (idx2 0 0) = ∑ n, ∑ k, A.soft n k * Ideal.log (A.soft n k + eps)) : CellsAre A (auxEnd a d mu e x10) := by
  have rd : ∀ j (hj : j < 128), auxEnd a d mu e x10 (ix2 0 ⟨j, hj⟩) = _ := fun j hj => by
    unfold auxEnd
    rw [put_cell _ j 6 hj (by decide), put_cell _ j 5 hj (by decide), put_cell _ j 4 hj (by decide), put_cell _ j 3 hj (by decide),
      put_cell _ j 2 hj (by decide), put_cell _ j 1 hj (by decide), put_cell _ j 0 hj (by decide)]
  constructor
  · refine (rd 0 (by decide)).trans ?_
    show k0_pay53 (F := Ideal) (e (idx2 0 0)) = _
    rw [he]
    refine Eq.trans ?_ (div_neg _)
    pointwise [k0_pay53]
  · exact (rd 1 (by decide)).trans (div_cell hg hF hd)
  · exact (rd 2 (by decide)).trans (pruning_cell hg hd h10)
  · exact (rd 3 (by decide)).trans (sparsity_cell h10)
  · exact (rd 4 (by decide)).trans (collapse_cell hg hd)
  · exact (rd 5 (by decide)).trans (balance_cell hg hd)
  · exact (rd 6 (by decide)).trans (sep_cell hF hP hmu)

end Cert.Value

end
-- ==== Proof.Value.Kernel.lean ====
/- The kernel's twelve results, in the notation of the results written out. -/
module

public import proofs.«01_k».proof.Proof.Value.Ends
public import Idealize.ShloMosaic.Lib.Claim

@[expose] public section

set_option maxRecDepth 16384

noncomputable section

namespace Cert.Value

open Idealize.ShloMosaic Idealize.ShloMosaic.TcCoe Idealize.ShloMosaic.Tactic
open Idealize.SL Idealize.SL.Sem
open Cert.KernelIdeal Cert.KernelIdeal.Gen
open Idealize.ShloMosaic.Pipeline (Dat Cfg Window)

variable (m : (ℓ : Loc nD τ sig) → Buf (Elt Ideal) ℓ) (c : Dev nD)

local notation "𝔸" => heldArgs m c

/-! ## The arrays after the region -/

/-- Only the last point writes the three whole-block results back. -/
theorem flush_last : (∀ t : Fin cfg0.N, (cfg0.win 11).flush t = true → t.val = 3) ∧ (∀ t : Fin cfg0.N, (cfg0.win 12).flush t = true → t.val = 3)
    ∧ (∀ t : Fin cfg0.N, (cfg0.win 13).flush t = true → t.val = 3) := by
  decide +kernel

theorem places_whole : ∀ t : Fin cfg0.N, (win0_11.index t 0 = 0 ∧ win0_11.index t 1 = 0 ∧ win0_11.index t 2 = 0)
    ∧ (win0_12.index t 0 = 0 ∧ win0_12.index t 1 = 0 ∧ win0_12.index t 2 = 0) ∧ (win0_13.index t 0 = 0 ∧ win0_13.index t 1 = 0) := by
  decide +kernel

theorem arr_out : (dats m 0 c).arrAt 11 (cfgs 0).N = (carried m c 4).acc.out := by
  refine (dats m 0 c).arrAt_eq_of_covers 11 _ (by decide +kernel) fun t hf y => ?_
  have e : (dats m 0 c).after 11 t = (carried m c (t.val + 1)).acc.out := by dsimp only [dats]
  blk_simp
  rw [e, flush_last.1 t hf]
  blk_ext [places_whole t]

theorem arr_mu : (dats m 0 c).arrAt 12 (cfgs 0).N = (carried m c 4).acc.mu := by
  refine (dats m 0 c).arrAt_eq_of_covers 12 _ (by decide +kernel) fun t hf y => ?_
  have e : (dats m 0 c).after 12 t = (carried m c (t.val + 1)).acc.mu := by dsimp only [dats]
  blk_simp
  rw [e, flush_last.2.1 t hf]
  blk_ext [places_whole t]

theorem arr_aux : (dats m 0 c).arrAt 13 (cfgs 0).N = (carried m c 4).aux := by
  refine (dats m 0 c).arrAt_eq_of_covers 13 _ (by decide +kernel) fun t hf y => ?_
  have e : (dats m 0 c).after 13 t = (carried m c (t.val + 1)).aux := by dsimp only [dats]
  blk_simp
  rw [e, flush_last.2.2 t hf]
  blk_ext [places_whole t]

theorem arr_soft : (dats m 0 c).arrAt 10 (cfgs 0).N = fun j : S8192x32.Idx => (𝔸).soft (j 0) (j 1) := by
  refine (dats m 0 c).arrAt_eq_of_covers 10 _ (by decide +kernel) fun t hf y => ?_
  have e : (dats m 0 c).after 10 t = k0_pay78 (ins m c t).num (ins m c t).tot := by dsimp only [dats]
  blk_simp
  rw [e]
  have hy := eq_ix2 (y : S2048x32.Idx)
  refine ((congrArg _ hy).trans (soft_block (fits m c t) _ _)).trans ?_
  have h0 : ((win0_10.blk t).view.emb y 0 : ℕ) = 2048 * t.val + (y 0).val := by blk_simp [places t]; omega
  have h1 : ((win0_10.blk t).view.emb y 1 : ℕ) = (y 1).val := by blk_simp [places t]
  exact congrArg₂ (𝔸).soft (Fin.ext h0.symm) (Fin.ext h1.symm)

/-! ## The host's cells -/

theorem arrRef_inj : Function.Injective (Pipeline.arrRef spec0) := by decide

/-- The cells' array as the host finds it. -/
theorem found_aux : Pipeline.withArrays (cfgs 0).spec c (V0 m c) (fun w => (dats m 0 c).arrAt w (cfgs 0).N) (Proc.tc.devRef main_v9_3) = (carried m c 4).aux :=
  (Pipeline.withArrays_arr spec0 arrRef_inj c (V0 m c) (fun w => (dats m 0 c).arrAt w (cfgs 0).N) 13).trans (arr_aux m c)

/-- A cell cut out and made a number. -/
theorem cell_at (x : Vec Ideal S8x128 .f32) (j : ℕ) (hj : j < 128) (h : S8x128.Slices ![0, j] S1x1) (i : S_.Idx) :
    shapeCast S_ (extractStridedSlice S1x1 ![0, j] x h) shapeCasts_S1x1_S_ i = x (ix2 0 ⟨j, hj⟩) := by
  obtain rfl : i = ix0 := by funext a; exact a.elim0
  pointwise []

set_option maxHeartbeats 4000000 in
/-- The seven numbers the host cuts out of the cells' array. -/
theorem tail_cells (i : S_.Idx) :
    Pipeline.afterTail₀ cfgs (dats m) 0 (V0 m) [hostOps1] c main_v11 i = (carried m c 4).aux (ix2 0 0)
    ∧ Pipeline.afterTail₀ cfgs (dats m) 0 (V0 m) [hostOps1] c main_v13 i = (carried m c 4).aux (ix2 0 1)
    ∧ Pipeline.afterTail₀ cfgs (dats m) 0 (V0 m) [hostOps1] c main_v15 i = (carried m c 4).aux (ix2 0 2)
    ∧ Pipeline.afterTail₀ cfgs (dats m) 0 (V0 m) [hostOps1] c main_v17 i = (carried m c 4).aux (ix2 0 3)
    ∧ Pipeline.afterTail₀ cfgs (dats m) 0 (V0 m) [hostOps1] c main_v19 i = (carried m c 4).aux (ix2 0 4)
    ∧ Pipeline.afterTail₀ cfgs (dats m) 0 (V0 m) [hostOps1] c main_v21 i = (carried m c 4).aux (ix2 0 5)
    ∧ Pipeline.afterTail₀ cfgs (dats m) 0 (V0 m) [hostOps1] c main_v23 i = (carried m c 4).aux (ix2 0 6) := by
  unfold Pipeline.afterTail₀
  simp only [hostOps1, List.flatten_cons, List.flatten_nil, List.append_nil]
  refine ⟨?_, ?_, ?_, ?_, ?_, ?_, ?_⟩ <;> after_results <;> rw [found_aux]
  exacts [cell_at _ 0 (by decide) _ i, cell_at _ 1 (by decide) _ i, cell_at _ 2 (by decide) _ i, cell_at _ 3 (by decide) _ i,
    cell_at _ 4 (by decide) _ i, cell_at _ 5 (by decide) _ i, cell_at _ 6 (by decide) _ i]

set_option maxHeartbeats 1000000 in
/-- The two results that are always zero. -/
theorem tail_zeros : Pipeline.afterTail₀ cfgs (dats m) 0 (V0 m) [hostOps1] c main_cst_0 = constant (F := Ideal) S_ .f32 0x00000000#32
    ∧ Pipeline.afterTail₀ cfgs (dats m) 0 (V0 m) [hostOps1] c main_cst_1 = constant (F := Ideal) S_ .f32 0x00000000#32 := by
  unfold Pipeline.afterTail₀
  simp only [hostOps1, List.flatten_cons, List.flatten_nil, List.append_nil]
  refine ⟨?_, ?_⟩ <;> after_results <;> rfl

/-! ## The results -/

variable {gn : Fin 8192 → Fin 8} (hg : ∀ n, (heldArgs m c).g n = BitVec.ofNat 32 (gn n).val) (hm : Monotone gn) (hF : (heldArgs m c).RowsFinite) (hP : (heldArgs m c).PosFinite)

theorem step (t : Fin 4) (n n' : ℕ) (hn : n = t.val) (hn' : n' = t.val + 1) :
    carried m c n' = (carried m c n).next (grid0.coords t) (ins m c t) := by
  subst hn hn'
  exact carried_succ m c t

theorem last_point : (carried m c 4).acc = ((carried m c 3).acc.pooled (grid0.coords (3 : Fin 4)) (ins m c (3 : Fin 4))).divided
    ∧ ∃ a, (carried m c 4).aux = auxEnd a ((carried m c 3).acc.pooled (grid0.coords (3 : Fin 4)) (ins m c (3 : Fin 4))).den
        ((carried m c 3).acc.pooled (grid0.coords (3 : Fin 4)) (ins m c (3 : Fin 4))).divided.mu
        (entNext (grid0.coords (3 : Fin 4)) (ins m c (3 : Fin 4)) (carried m c 3).ent) (ins m c (3 : Fin 4)).x10 := by
  have hl : k0_cond12 (grid0.coords (3 : Fin 4)) = 1#1 := (last_iff (3 : Fin 4)).mpr rfl
  rw [step m c 3 3 4 rfl rfl]
  generalize carried m c 3 = C
  generalize ins m c (3 : Fin 4) = X
  generalize grid0.coords (3 : Fin 4) = i at hl ⊢
  constructor
  · show C.acc.next i X = _
    rw [Acc.next, if_pos hl]
  · refine ⟨auxStart i C.aux, ?_⟩
    show auxNext i X C.acc C.ent C.aux = _
    rw [auxNext, if_pos hl]

include hg hm in
theorem out_is (b : Fin 8) (k : Fin 32) (f : Fin 128) : (carried m c 4).acc.out (ix3 b k f) = (𝔸).out b k f := by
  have s := sums m c hg hm
  rw [(last_point m c).1]
  generalize (carried m c 3).acc.pooled (grid0.coords (3 : Fin 4)) (ins m c (3 : Fin 4)) = P at s ⊢
  refine (divided_out s.den P.out b k f).trans ?_
  rw [s.out]
  rfl

include hg hm in
theorem mu_is (b : Fin 8) (k : Fin 32) (j : Fin 2) : (carried m c 4).acc.mu (ix3 b k j) = (𝔸).mu b k j := by
  have s := sums m c hg hm
  rw [(last_point m c).1]
  generalize (carried m c 3).acc.pooled (grid0.coords (3 : Fin 4)) (ins m c (3 : Fin 4)) = P at s ⊢
  refine (divided_mu s.den P.mu b k j).trans ?_
  rw [s.mu]
  rfl

include hg hm hF hP in
theorem aux_is : CellsAre (𝔸) (carried m c 4).aux := by
  have s := sums m c hg hm
  have hmu := mu_is m c hg hm
  have he := ent_sum m c
  obtain ⟨e1, a, e2⟩ := last_point m c
  rw [e1] at hmu
  rw [e2]
  exact cells_are hg hF hP s.den hmu (fits m c 3).x10 a _ he

/-- What a final memory holds of a core: the twelve results, and the arguments as launched. -/
def Holds (c : Dev nD) (M : (ℓ : Loc nD τ sig) → Buf (Elt Ideal) ℓ) : Prop :=
  M ((c.tc : Thread nD τ).loc main_v9_1) = (fun j : S8x32x128.Idx => (heldArgs m c).out (j 0) (j 1) (j 2))
  ∧ M ((c.tc : Thread nD τ).loc main_v9_0) = (fun j : S8192x32.Idx => (heldArgs m c).soft (j 0) (j 1))
  ∧ M ((c.tc : Thread nD τ).loc main_v9_2) = (fun j : S8x32x2.Idx => (heldArgs m c).mu (j 0) (j 1) (j 2))
  ∧ M ((c.tc : Thread nD τ).loc main_v11) = (fun _ : S_.Idx => (heldArgs m c).entropy)
  ∧ M ((c.tc : Thread nD τ).loc main_v13) = (fun _ : S_.Idx => (heldArgs m c).diversity)
  ∧ M ((c.tc : Thread nD τ).loc main_cst_0) = constant (F := Ideal) S_ .f32 0x00000000#32
  ∧ M ((c.tc : Thread nD τ).loc main_v15) = (fun _ : S_.Idx => (heldArgs m c).pruning)
  ∧ M ((c.tc : Thread nD τ).loc main_v17) = (fun _ : S_.Idx => (heldArgs m c).sparsity)
  ∧ M ((c.tc : Thread nD τ).loc main_cst_1) = constant (F := Ideal) S_ .f32 0x00000000#32
  ∧ M ((c.tc : Thread nD τ).loc main_v19) = (fun _ : S_.Idx => (heldArgs m c).collapse)
  ∧ M ((c.tc : Thread nD τ).loc main_v21) = (fun _ : S_.Idx => (heldArgs m c).balance)
  ∧ M ((c.tc : Thread nD τ).loc main_v23) = (fun _ : S_.Idx => (heldArgs m c).separation)

/-- With sorted graph numbers below eight, finite rows and finite positions, the run ends with the results written out. -/
theorem kernel_run (ρ : Dev nD → PrngReg) (hr : InRange m)
    (h : ∀ c, ∃ gn : Fin 8192 → Fin 8, (∀ n, (heldArgs m c).g n = BitVec.ofNat 32 (gn n).val) ∧ Monotone gn)
    (hF : ∀ c, (heldArgs m c).RowsFinite) (hP : ∀ c, (heldArgs m c).PosFinite) :
    θ_run defs (onTc (τ := τ) (main (F := Ideal))) ⟨m, fun _ => 0, ρ⟩ (fun r => ∀ c : Dev nD, Holds m c r.2.mem) := by
  refine (θ_run defs _ _).mono (fun r hp c => ?_) (run_main m ρ hr)
  obtain ⟨gn, hg, hm⟩ := h c
  have ha := aux_is m c hg hm (hF c) (hP c)
  have rest := (hp c).2
  have cell := fun i => tail_cells m c i
  refine ⟨?_, ((hp c).1 10).trans (arr_soft m c), ?_, ?_, ?_, ?_, ?_, ?_, ?_, ?_, ?_, ?_⟩
  · refine (((hp c).1 11).trans (arr_out m c)).trans (funext fun j => ?_)
    exact (congrArg (carried m c 4).acc.out (eq_ix3 (j : S8x32x128.Idx))).trans (out_is m c hg hm _ _ _)
  · refine (((hp c).1 12).trans (arr_mu m c)).trans (funext fun j => ?_)
    exact (congrArg (carried m c 4).acc.mu (eq_ix3 (j : S8x32x2.Idx))).trans (mu_is m c hg hm _ _ _)
  · exact (rest main_v11 (Pipeline.mem_restRefs_of main_v11 (by decide) (by decide))).trans (funext fun i => (cell i).1.trans ha.entropy)
  · exact (rest main_v13 (Pipeline.mem_restRefs_of main_v13 (by decide) (by decide))).trans (funext fun i => (cell i).2.1.trans ha.diversity)
  · exact (rest main_cst_0 (Pipeline.mem_restRefs_of main_cst_0 (by decide) (by decide))).trans (tail_zeros m c).1
  · exact (rest main_v15 (Pipeline.mem_restRefs_of main_v15 (by decide) (by decide))).trans (funext fun i => (cell i).2.2.1.trans ha.pruning)
  · exact (rest main_v17 (Pipeline.mem_restRefs_of main_v17 (by decide) (by decide))).trans (funext fun i => (cell i).2.2.2.1.trans ha.sparsity)
  · exact (rest main_cst_1 (Pipeline.mem_restRefs_of main_cst_1 (by decide) (by decide))).trans (tail_zeros m c).2
  · exact (rest main_v19 (Pipeline.mem_restRefs_of main_v19 (by decide) (by decide))).trans (funext fun i => (cell i).2.2.2.2.1.trans ha.collapse)
  · exact (rest main_v21 (Pipeline.mem_restRefs_of main_v21 (by decide) (by decide))).trans (funext fun i => (cell i).2.2.2.2.2.1.trans ha.balance)
  · exact (rest main_v23 (Pipeline.mem_restRefs_of main_v23 (by decide) (by decide))).trans (funext fun i => (cell i).2.2.2.2.2.2.trans ha.separation)

end Cert.Value

end
-- ==== Proof.Value.Pre.lean ====
/- The value claim's precondition, decoded. -/
module

public import proofs.«01_k».proof.Proof.Gen.Pre_graphs_sorted_rows_finite
public import proofs.«01_k».proof.Proof.Pre
public import proofs.«01_k».proof.Proof.Value.Ref
public import proofs.«01_k».proof.Proof.Value.Real

@[expose] public section

set_option maxRecDepth 16384

noncomputable section

namespace Cert.Value

open Idealize.ShloMosaic Idealize.ShloMosaic.Tactic
open Cert.ReferenceIdeal Cert.ReferenceIdeal.Read

variable [Cert.ReferenceIdeal.Facts] [Cert.Pre_graphs_sorted_rows_finite.Facts]

variable (x0 : FVec Ideal S8192x128 .f32) (x1 : IVec S8192 32) (x2 : FVec Ideal S8192x2 .f32) (x3 : FVec Ideal S128x128 .f32)
    (x4 : FVec Ideal S128 .f32) (x5 : FVec Ideal S128x32 .f32) (x6 : FVec Ideal S32 .f32) (x7 : FVec Ideal S_ .f32)
    (x8 : FVec Ideal S8192x32 .f32) (x9 : FVec Ideal S32 .f32)

/-- The graph number after a token's, the last token's own after the last. -/
def later (x1 : IVec S8192 32) : IVec S8192 32 :=
  concatenate S8192 0 [⟨Cert.Pre_graphs_sorted_rows_finite.S8191, extractStridedSlice Cert.Pre_graphs_sorted_rows_finite.S8191 ![1] x1 Cert.Pre_graphs_sorted_rows_finite.Facts.slices_S8192_S8191_1⟩,
    ⟨Cert.Pre_graphs_sorted_rows_finite.S1, extractStridedSlice Cert.Pre_graphs_sorted_rows_finite.S1 ![8191] x1 Cert.Pre_graphs_sorted_rows_finite.Facts.slices_S8192_S1_8191⟩]
    Cert.Pre_graphs_sorted_rows_finite.Facts.concatenates_S8191_S1_S8192_d0

theorem later_at (n n' : Fin 8192) (h : n'.val = n.val + 1) : later x1 (ix1 n) = x1 (ix1 n') := by
  unfold later
  pointwise []
  rw [dif_pos (by omega)]
  exact congrArg (fun k => x1 (ix1 k)) (Fin.ext (by simp only; omega))

/-- The precondition as one bit per coordinate, its largest noised logit the reference's own. -/
theorem pre_eq : Cert.Pre_graphs_sorted_rows_finite.fn (F := Ideal) x0 x1 x2 x3 x4 x5 x6 x7 x8 x9
    = andi (broadcastInDim S8192x2 ![0, 1] Cert.Pre_graphs_sorted_rows_finite.Facts.bcast_S8192x1_S8192x2_0_1
        (broadcastInDim S8192x1 ![0] Cert.Pre_graphs_sorted_rows_finite.Facts.bcast_S8192_S8192x1_0
          (andi (andi (andi (cmpi .sge x1 (fun _ => 0#32)) (cmpi .slt x1 (fun _ => 8#32))) (cmpi .sle x1 (later x1)))
            (cmpf .olt (Host.absf (val_main_v18 (F := Ideal) x0 x3 x4 x5 x6 x7 x8 x9)) (fun _ => Ideal.ofBits .f32 0x7F800000#32)))))
      (cmpf .olt (Host.absf x2) (fun _ => Ideal.ofBits .f32 0x7F800000#32)) := by
  unfold Cert.Pre_graphs_sorted_rows_finite.fn Cert.Pre_graphs_sorted_rows_finite.fn_part1 later
  rfl

/-- Both sides of a conjunction of bits. -/
theorem both_bits (p q : BitVec 1) : IntOp.andi p q = 1#1 ↔ p = 1#1 ∧ q = 1#1 := by revert p q; decide

/-- An extended real whose absolute value is below infinity is finite. -/
theorem finite_of_bit (x : EReal) (h : FloatOps.cmpf (F := Ideal) (φ := .f32) .olt (FloatOps.hostAbsf (F := Ideal) (φ := .f32) x) (Ideal.ofBits .f32 0x7F800000#32) = 1#1) :
    x ≠ ⊤ ∧ x ≠ ⊥ := by
  have e : max x (-x) < (⊤ : EReal) := by
    have e : BitVec.ofBool (decide (max x (-x) < Ideal.ofBits .f32 0x7F800000#32)) = 1#1 := h
    rw [top_of_bits] at e
    exact of_decide_eq_true ((Cert.Pre.bit_set _).mp e)
  constructor
  · rintro rfl; exact absurd e (by simp)
  · rintro rfl; exact absurd e (by simp)

/-- Everything the precondition says of one token and one coordinate. -/
theorem pre_at (h : Cert.Pre_graphs_sorted_rows_finite.fn (F := Ideal) x0 x1 x2 x3 x4 x5 x6 x7 x8 x9 = fun _ => 1#1) (n : Fin 8192) (c : Fin 2) :
    (x1 (ix1 n)).toNat < 8 ∧ (x1 (ix1 n)).sle (later x1 (ix1 n)) = true
      ∧ ((argsOf x0 x1 x2 x3 x4 x5 x6 x7 x8 x9).top n ≠ ⊤ ∧ (argsOf x0 x1 x2 x3 x4 x5 x6 x7 x8 x9).top n ≠ ⊥) ∧ x2 (ix2 n c) ≠ ⊤ ∧ x2 (ix2 n c) ≠ ⊥ := by
  have e := congrFun (pre_eq x0 x1 x2 x3 x4 x5 x6 x7 x8 x9 ▸ h) (ix2 n c)
  have e' : IntOp.andi (IntOp.andi (IntOp.andi (IntOp.andi (IntOp.cmpi .sge (x1 (ix1 n)) 0#32) (IntOp.cmpi .slt (x1 (ix1 n)) 8#32))
      (IntOp.cmpi .sle (x1 (ix1 n)) (later x1 (ix1 n))))
      (FloatOps.cmpf (F := Ideal) (φ := .f32) .olt (FloatOps.hostAbsf (val_main_v18 (F := Ideal) x0 x3 x4 x5 x6 x7 x8 x9 (ix1 n))) (Ideal.ofBits .f32 0x7F800000#32)))
      (FloatOps.cmpf (F := Ideal) (φ := .f32) .olt (FloatOps.hostAbsf (x2 (ix2 n c))) (Ideal.ofBits .f32 0x7F800000#32)) = 1#1 := by
    refine Eq.trans ?_ e
    pointwise []
  rw [both_bits, both_bits, both_bits, both_bits, ref_most x0 x1 x2 x3 x4 x5 x6 x7 x8 x9] at e'
  obtain ⟨⟨⟨⟨hge, hlt⟩, hle⟩, ht⟩, hp⟩ := e'
  simp only [IntOp.cmpi, Cert.Pre.bit_set, BitVec.sle, BitVec.slt, decide_eq_true_eq, BitVec.toInt, BitVec.toNat_ofNat] at hge hlt
  refine ⟨by omega, (Cert.Pre.bit_set _).mp hle, finite_of_bit _ ht, finite_of_bit _ hp⟩

/-- The graphs as numbers below eight, in ascending order. -/
theorem pre_graphs (h : Cert.Pre_graphs_sorted_rows_finite.fn (F := Ideal) x0 x1 x2 x3 x4 x5 x6 x7 x8 x9 = fun _ => 1#1) :
    ∃ gn : Fin 8192 → Fin 8, (∀ n, x1 (ix1 n) = BitVec.ofNat 32 (gn n).val) ∧ Monotone gn := by
  have p := fun n => pre_at x0 x1 x2 x3 x4 x5 x6 x7 x8 x9 h n 0
  refine ⟨fun n => ⟨(x1 (ix1 n)).toNat, (p n).1⟩, fun n => by simp, ?_⟩
  refine Fin.monotone_iff_le_succ (n := 8191) |>.mpr fun i => ?_
  have hs := (p i.castSucc).2.1
  rw [later_at x1 i.castSucc i.succ (by simp)] at hs
  have h0 := (p i.castSucc).1
  have h1 := (p i.succ).1
  simp only [BitVec.sle, decide_eq_true_eq, BitVec.toInt] at hs
  refine Fin.mk_le_mk.mpr ?_
  omega

end Cert.Value

end
-- ==== Proof.Value.Claim.lean ====
/- The reference's twelve results in the notation of the results written out, and the two programs' agreement. -/
module

public import proofs.«01_k».proof.Proof.Frames
public import proofs.«01_k».proof.Proof.Value.Kernel
public import proofs.«01_k».proof.Proof.Value.Pre

@[expose] public section

set_option maxRecDepth 16384

noncomputable section

namespace Cert.Value

open Idealize.ShloMosaic Idealize.ShloMosaic.Tactic
open Idealize.SL Idealize.SL.Sem

section Reference

open Cert.ReferenceIdeal Cert.ReferenceIdeal.Read

variable [Cert.ReferenceIdeal.Facts] (m : (ℓ : Loc nD τ sig) → Buf (Elt Ideal) ℓ) (c : Dev nD)

/-- The reference's argument arrays of a core, as functions of their coordinates. -/
def refArgs : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- What the reference leaves in its twelve result arrays. -/
def RefHolds (M : (ℓ : Loc nD τ sig) → Buf (Elt Ideal) ℓ) : Prop :=
  M ((c.tc : Thread nD τ).loc main_v78) = (fun j : S8x32x128.Idx => (refArgs m c).out (j 0) (j 1) (j 2))
  ∧ M ((c.tc : Thread nD τ).loc main_v28) = (fun j : S8192x32.Idx => (refArgs m c).soft (j 0) (j 1))
  ∧ M ((c.tc : Thread nD τ).loc main_v91) = (fun j : S8x32x2.Idx => (refArgs m c).mu (j 0) (j 1) (j 2))
  ∧ M ((c.tc : Thread nD τ).loc main_v39) = (fun _ : S_.Idx => (refArgs m c).entropy)
  ∧ M ((c.tc : Thread nD τ).loc main_v46) = (fun _ : S_.Idx => (refArgs m c).diversity)
  ∧ M ((c.tc : Thread nD τ).loc main_cst_34) = constant (F := Ideal) S_ .f32 0x00000000#32
  ∧ M ((c.tc : Thread nD τ).loc main_v52) = (fun _ : S_.Idx => (refArgs m c).pruning)
  ∧ M ((c.tc : Thread nD τ).loc main_v54) = (fun _ : S_.Idx => (refArgs m c).sparsity)
  ∧ M ((c.tc : Thread nD τ).loc main_cst_35) = constant (F := Ideal) S_ .f32 0x00000000#32
  ∧ M ((c.tc : Thread nD τ).loc main_v57) = (fun _ : S_.Idx => (refArgs m c).collapse)
  ∧ M ((c.tc : Thread nD τ).loc main_v62) = (fun _ : S_.Idx => (refArgs m c).balance)
  ∧ M ((c.tc : Thread nD τ).loc main_v113) = (fun _ : S_.Idx => (refArgs m c).separation)

/-- The reference ends with the results written out and its arguments as launched. -/
theorem reference_run (ρ : Dev nD → PrngReg) :
    θ_run defs (onTc (τ := τ) (main (F := Ideal))) ⟨m, fun _ => 0, ρ⟩ (fun r => ∀ c : Dev nD, RefHolds m c r.2.mem) := by
  refine (θ_run _ _ _).mono (fun r h c => ?_) (Cert.ReferenceIdeal.Value.run m ρ)
  obtain ⟨h78, h28, h91, h39, h46, h34, h52, h54, h35, h57, h62, h113, -⟩ := h c
  rw [val_main_v78_eq] at h78
  rw [val_main_v28_eq] at h28
  rw [val_main_v91_eq] at h91
  rw [val_main_v39_eq] at h39
  rw [val_main_v46_eq] at h46
  rw [val_main_v52_eq] at h52
  rw [val_main_v57_eq] at h57
  rw [val_main_v62_eq] at h62
  rw [val_main_v113_eq] at h113
  refine ⟨h78.trans ?_, h28.trans ?_, h91.trans ?_, h39.trans (funext fun i => ref_entropy ..), h46.trans (funext fun i => ref_diversity ..), h34,
    h52.trans (funext fun i => ref_pruning ..), h54.trans (funext fun i => ref_sparsity ..), h35, h57.trans (funext fun i => ref_collapse ..),
    h62.trans (funext fun i => ref_balance ..), h113.trans (funext fun i => ref_separation ..)⟩
  · funext j; rw [eq_ix3 j]; exact ref_out ..
  · funext j; rw [eq_ix2 j]; exact ref_soft ..
  · funext j; rw [eq_ix3 j]; exact ref_mu ..

end Reference

section Agreement

open Cert.KernelIdeal

variable (m : (ℓ : Loc nD τ sig) → Buf (Elt Ideal) ℓ)

theorem inRange_of_pre [Cert.Pre_graphs_sorted_rows_finite.Facts] (h : Cert.Pre_KernelIdeal_graphs_sorted_rows_finite m) : Cert.KernelIdeal.Gen.InRange m := by
  refine Cert.KernelIdeal.Gen.inRange_of m fun c j => ?_
  rw [eq_ix1 j]
  exact (pre_at _ _ _ _ _ _ _ _ _ _ (h c) (j 0) 0).1

theorem pre_holds [Cert.Pre_graphs_sorted_rows_finite.Facts] (h : Cert.Pre_KernelIdeal_graphs_sorted_rows_finite m) (ρ : Dev nD → PrngReg) :
    θ_run defs (onTc (τ := τ) (main (F := Ideal))) ⟨m, fun _ => 0, ρ⟩ (fun r => ∀ c : Dev nD, Holds m c r.2.mem) :=
  kernel_run m ρ (inRange_of_pre m h) (fun c => pre_graphs _ _ _ _ _ _ _ _ _ _ (h c)) (fun c n => (pre_at _ _ _ _ _ _ _ _ _ _ (h c) n 0).2.2.1)
    (fun c n k => (pre_at _ _ _ _ _ _ _ _ _ _ (h c) n k).2.2.2)

end Agreement

end Cert.Value

namespace Cert.Proof

open Idealize.ShloMosaic Idealize.SL Idealize.SL.Sem

instance : Cert.Pre_graphs_sorted_rows_finite.Facts := Cert.Pre_graphs_sorted_rows_finite.Gen.facts

theorem frame_kernelIdeal_sorted : Cert.quiescent_KernelIdeal_pre_graphs_sorted_rows_finite :=
  fun m g h => Cert.KernelIdeal.Gen.frame_run m g (Cert.Value.inRange_of_pre m h)

theorem frame_reference_sorted : Cert.quiescent_ReferenceIdeal_pre_graphs_sorted_rows_finite :=
  fun m g _ => frame_reference m g trivial

/-- From equal arguments the two programs end with equal results, all twelve of them. -/
theorem agree : Cert.algebraic_KernelIdeal_ReferenceIdeal_pre_graphs_sorted_rows_finite := by
  intro m g m' g' h he
  refine ⟨fun c j => (Cert.Value.heldArgs m c).out (j 0) (j 1) (j 2), fun c j => (Cert.Value.heldArgs m c).soft (j 0) (j 1),
    fun c j => (Cert.Value.heldArgs m c).mu (j 0) (j 1) (j 2), fun c _ => (Cert.Value.heldArgs m c).entropy, fun c _ => (Cert.Value.heldArgs m c).diversity,
    fun _ => constant (F := Ideal) Cert.KernelIdeal.S_ .f32 0x00000000#32, fun c _ => (Cert.Value.heldArgs m c).pruning,
    fun c _ => (Cert.Value.heldArgs m c).sparsity, fun _ => constant (F := Ideal) Cert.KernelIdeal.S_ .f32 0x00000000#32,
    fun c _ => (Cert.Value.heldArgs m c).collapse, fun c _ => (Cert.Value.heldArgs m c).balance, fun c _ => (Cert.Value.heldArgs m c).separation, ?_, ?_⟩
  · refine (θ_run _ _ _).mono (fun r hr c => ?_) (θ_run_and (Cert.Value.pre_holds m h g) (Cert.KernelIdeal.Gen.frame_run m g (Cert.Value.inRange_of_pre m h)))
    obtain ⟨h0, h1, h2, h3, h4, h5, h6, h7, h8, h9, h10, h11⟩ := hr.1 c
    exact ⟨h0, h1, h2, h3, h4, h5, h6, h7, h8, h9, h10, h11, hr.2.1 c⟩
  · refine (θ_run _ _ _).mono (fun r hr c => ?_) (θ_run_and (Cert.Value.reference_run m' g') (frame_reference m' g' trivial))
    have hA : Cert.Value.refArgs m' c = Cert.Value.heldArgs m c := by
      obtain ⟨e0, e1, e2, e3, e4, e5, e6, e7, e8, e9⟩ := he c
      unfold Cert.Value.refArgs
      rw [e0, e1, e2, e3, e4, e5, e6, e7, e8, e9]
      rfl
    have hc := hr.1 c
    unfold Cert.Value.RefHolds at hc
    rw [hA] at hc
    obtain ⟨h0, h1, h2, h3, h4, h5, h6, h7, h8, h9, h10, h11⟩ := hc
    exact ⟨h0, h1, h2, h3, h4, h5, h6, h7, h8, h9, h10, h11, hr.2.1 c⟩

end Cert.Proof

end
-- ==== Proof.lean ====
/- The claims about the fused pooling kernel and its reference. -/
module

public import proofs.«01_k».proof.Defs
public import proofs.«01_k».proof.Proof.Frames
public import proofs.«01_k».proof.Proof.Value.Claim

@[expose] public section

noncomputable section

namespace Cert.Proof

open Idealize.ShloMosaic Idealize.SL.Sem

theorem claim : Cert.Claim :=
  ⟨inferInstance, inferInstance, inferInstance, inferInstance, inferInstance, frame_kernel, frame_kernelIdeal, frame_kernelIdeal_sorted,
    frame_reference, frame_reference_sorted, trivial, agree⟩

end Cert.Proof

end
